-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  bcast_S_S128x32 : S_.BroadcastsInDim S128x32 (![] : Fin 0 → Fin S128x32.rank)

variable [Facts]

def fn {F : FTy → Type} [FloatOps F] (main_arg0 : FVec F S256x128 .f32) (main_arg1 : FVec F S128x32 .f32) (main_arg2 : IVec S256x1 32) (main_arg3 : FVec F S2x128x256 .f32) (main_arg4 : FVec F S128x256 .f32) : IVec S256x128 1 × IVec S128x32 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x32 .f32 := Host.absf main_arg1
  let main_cst_0 : FVec F S_ .f32 := constant S_ .f32 0x7F800000#32
  let main_v4 : FVec F S128x32 .f32 := broadcastInDim S128x32 ![] bcast_S_S128x32 main_cst_0
  let main_v5 : IVec S128x32 1 := cmpf .olt main_v3 main_v4
  (main_v2, main_v5)
-- ==== Pre_finite_router_ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  bcast_S_S128x32 : S_.BroadcastsInDim S128x32 (![] : Fin 0 → Fin S128x32.rank)

variable [Facts]

def fn {F : FTy → Type} [FloatOps F] (main_arg0 : FVec F S256x128 .f32) (main_arg1 : FVec F S128x32 .f32) (main_arg2 : IVec S256x1 32) (main_arg3 : FVec F S32x128x256 .f32) (main_arg4 : FVec F S128x256 .f32) : IVec S256x128 1 × IVec S128x32 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x32 .f32 := Host.absf main_arg1
  let main_cst_0 : FVec F S_ .f32 := constant S_ .f32 0x7F800000#32
  let main_v4 : FVec F S128x32 .f32 := broadcastInDim S128x32 ![] bcast_S_S128x32 main_cst_0
  let main_v5 : IVec S128x32 1 := cmpf .olt main_v3 main_v4
  (main_v2, main_v5)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S16x256 : Shape := ⟨2, ![16, 256]⟩
abbrev S256x256 : Shape := ⟨2, ![256, 256]⟩
abbrev S16x16x256 : Shape := ⟨3, ![16, 16, 256]⟩
abbrev S16 : Shape := ⟨1, ![16]⟩
abbrev S_ : Shape := ⟨0, ![]⟩
abbrev S256x32 : Shape := ⟨2, ![256, 32]⟩
abbrev S256 : Shape := ⟨1, ![256]⟩
abbrev S1x128x256 : Shape := ⟨3, ![1, 128, 256]⟩
abbrev S128x128 : Shape := ⟨2, ![128, 128]⟩
abbrev S128x1 : Shape := ⟨2, ![128, 1]⟩
abbrev S1 : Shape := ⟨1, ![1]⟩
abbrev S1x16x256 : Shape := ⟨3, ![1, 16, 256]⟩
abbrev S16x128 : Shape := ⟨2, ![16, 128]⟩
abbrev S15x16x256 : Shape := ⟨3, ![15, 16, 256]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S16x256, .f32⟩
  | .local _ .vmem, ⟨0, _⟩ => ⟨S256x128, .f32⟩
  | .local _ .vmem, ⟨1, _⟩ => ⟨S128x32, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S16x256, .f32⟩
  | .local _ .vmem, ⟨6, _⟩ => ⟨S256x256, .bf16⟩
  | .local _ .vmem, ⟨7, _⟩ => ⟨S16x16x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_85 : BitVec 32 := 1#32
  let v121 : BitVec 32 := Scalar.addi v2 c1_i32_85
  let c16_i32_86 : BitVec 32 := 16#32
  let v122 : BitVec 32 := Scalar.remsi v121 c16_i32_86
  let c8_i32_88 : BitVec 32 := 8#32
  let v124 : BitVec 1 := Scalar.cmpi .slt v122 c8_i32_88
  let v125 : BitVec 32 := Scalar.extui v124
  let c0_i32_92 : BitVec 32 := 0#32
  let v126 : BitVec 1 := Scalar.cmpi .ne v125 c0_i32_92
  v126

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_85 : BitVec 32 := 1#32
  let v121 : BitVec 32 := Scalar.addi v2 c1_i32_85
  let c16_i32_86 : BitVec 32 := 16#32
  let v122 : BitVec 32 := Scalar.remsi v121 c16_i32_86
  let c16_i32_87 : BitVec 32 := 16#32
  let v123 : BitVec 32 := Scalar.muli v122 c16_i32_87
  let c0_i32_570 : BitVec 32 := 0#32
  ![v123.toNat, 0]
def k0_dev16 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_85 : BitVec 32 := 1#32
  let v121 : BitVec 32 := Scalar.addi v2 c1_i32_85
  let c16_i32_86 : BitVec 32 := 16#32
  let v122 : BitVec 32 := Scalar.remsi v121 c16_i32_86
  let c1_i32_566 : BitVec 32 := 1#32
  let v516 : BitVec 32 := Scalar.muli v122 c1_i32_566
  let v517 : BitVec 32 := Scalar.addi c0_i32_567 v516
  v517.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v127 : BitVec 32 := Scalar.addi v2 c2_i32_93
  let c16_i32_94 : BitVec 32 := 16#32
  let v128 : BitVec 32 := Scalar.remsi v127 c16_i32_94
  let c8_i32_96 : BitVec 32 := 8#32
  let v130 : BitVec 1 := Scalar.cmpi .slt v128 c8_i32_96
  let v131 : BitVec 32 := Scalar.extui v130
  let c0_i32_100 : BitVec 32 := 0#32
  let v132 : BitVec 1 := Scalar.cmpi .ne v131 c0_i32_100
  v132

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v127 : BitVec 32 := Scalar.addi v2 c2_i32_93
  let c16_i32_94 : BitVec 32 := 16#32
  let v128 : BitVec 32 := Scalar.remsi v127 c16_i32_94
  let c16_i32_95 : BitVec 32 := 16#32
  let v129 : BitVec 32 := Scalar.muli v128 c16_i32_95
  let c0_i32_570 : BitVec 32 := 0#32
  ![v129.toNat, 0]
def k0_dev17 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v127 : BitVec 32 := Scalar.addi v2 c2_i32_93
  let c16_i32_94 : BitVec 32 := 16#32
  let v128 : BitVec 32 := Scalar.remsi v127 c16_i32_94
  let c1_i32_566 : BitVec 32 := 1#32
  let v516 : BitVec 32 := Scalar.muli v128 c1_i32_566
  let v517 : BitVec 32 := Scalar.addi c0_i32_567 v516
  v517.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_101 : BitVec 32 := 3#32
  let v133 : BitVec 32 := Scalar.addi v2 c3_i32_101
  let c16_i32_102 : BitVec 32 := 16#32
  let v134 : BitVec 32 := Scalar.remsi v133 c16_i32_102
  let c8_i32_104 : BitVec 32 := 8#32
  let v136 : BitVec 1 := Scalar.cmpi .slt v134 c8_i32_104
  let v137 : BitVec 32 := Scalar.extui v136
  let c0_i32_108 : BitVec 32 := 0#32
  let v138 : BitVec 1 := Scalar.cmpi .ne v137 c0_i32_108
  v138

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_101 : BitVec 32 := 3#32
  let v133 : BitVec 32 := Scalar.addi v2 c3_i32_101
  let c16_i32_102 : BitVec 32 := 16#32
  let v134 : BitVec 32 := Scalar.remsi v133 c16_i32_102
  let c16_i32_103 : BitVec 32 := 16#32
  let v135 : BitVec 32 := Scalar.muli v134 c16_i32_103
  let c0_i32_570 : BitVec 32 := 0#32
  ![v135.toNat, 0]
def k0_dev18 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_101 : BitVec 32 := 3#32
  let v133 : BitVec 32 := Scalar.addi v2 c3_i32_101
  let c16_i32_102 : BitVec 32 := 16#32
  let v134 : BitVec 32 := Scalar.remsi v133 c16_i32_102
  let c1_i32_566 : BitVec 32 := 1#32
  let v516 : BitVec 32 := Scalar.muli v134 c1_i32_566
  let v517 : BitVec 32 := Scalar.addi c0_i32_567 v516
  v517.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_109 : BitVec 32 := 4#32
  let v139 : BitVec 32 := Scalar.addi v2 c4_i32_109
  let c16_i32_110 : BitVec 32 := 16#32
  let v140 : BitVec 32 := Scalar.remsi v139 c16_i32_110
  let c8_i32_112 : BitVec 32 := 8#32
  let v142 : BitVec 1 := Scalar.cmpi .slt v140 c8_i32_112
  let v143 : BitVec 32 := Scalar.extui v142
  let c0_i32_116 : BitVec 32 := 0#32
  let v144 : BitVec 1 := Scalar.cmpi .ne v143 c0_i32_116
  v144

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_109 : BitVec 32 := 4#32
  let v139 : BitVec 32 := Scalar.addi v2 c4_i32_109
  let c16_i32_110 : BitVec 32 := 16#32
  let v140 : BitVec 32 := Scalar.remsi v139 c16_i32_110
  let c16_i32_111 : BitVec 32 := 16#32
  let v141 : BitVec 32 := Scalar.muli v140 c16_i32_111
  let c0_i32_570 : BitVec 32 := 0#32
  ![v141.toNat, 0]
def k0_dev19 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_109 : BitVec 32 := 4#32
  let v139 : BitVec 32 := Scalar.addi v2 c4_i32_109
  let c16_i32_110 : BitVec 32 := 16#32
  let v140 : BitVec 32 := Scalar.remsi v139 c16_i32_110
  let c1_i32_566 : BitVec 32 := 1#32
  let v516 : BitVec 32 := Scalar.muli v140 c1_i32_566
  let v517 : BitVec 32 := Scalar.addi c0_i32_567 v516
  v517.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_117 : BitVec 32 := 5#32
  let v145 : BitVec 32 := Scalar.addi v2 c5_i32_117
  let c16_i32_118 : BitVec 32 := 16#32
  let v146 : BitVec 32 := Scalar.remsi v145 c16_i32_118
  let c8_i32_120 : BitVec 32 := 8#32
  let v148 : BitVec 1 := Scalar.cmpi .slt v146 c8_i32_120
  let v149 : BitVec 32 := Scalar.extui v148
  let c0_i32_124 : BitVec 32 := 0#32
  let v150 : BitVec 1 := Scalar.cmpi .ne v149 c0_i32_124
  v150

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_117 : BitVec 32 := 5#32
  let v145 : BitVec 32 := Scalar.addi v2 c5_i32_117
  let c16_i32_118 : BitVec 32 := 16#32
  let v146 : BitVec 32 := Scalar.remsi v145 c16_i32_118
  let c16_i32_119 : BitVec 32 := 16#32
  let v147 : BitVec 32 := Scalar.muli v146 c16_i32_119
  let c0_i32_570 : BitVec 32 := 0#32
  ![v147.toNat, 0]
def k0_dev20 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_117 : BitVec 32 := 5#32
  let v145 : BitVec 32 := Scalar.addi v2 c5_i32_117
  let c16_i32_118 : BitVec 32 := 16#32
  let v146 : BitVec 32 := Scalar.remsi v145 c16_i32_118
  let c1_i32_566 : BitVec 32 := 1#32
  let v516 : BitVec 32 := Scalar.muli v146 c1_i32_566
  let v517 : BitVec 32 := Scalar.addi c0_i32_567 v516
  v517.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v151 : BitVec 32 := Scalar.addi v2 c6_i32_125
  let c16_i32_126 : BitVec 32 := 16#32
  let v152 : BitVec 32 := Scalar.remsi v151 c16_i32_126
  let c8_i32_128 : BitVec 32 := 8#32
  let v154 : BitVec 1 := Scalar.cmpi .slt v152 c8_i32_128
  let v155 : BitVec 32 := Scalar.extui v154
  let c0_i32_132 : BitVec 32 := 0#32
  let v156 : BitVec 1 := Scalar.cmpi .ne v155 c0_i32_132
  v156

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v151 : BitVec 32 := Scalar.addi v2 c6_i32_125
  let c16_i32_126 : BitVec 32 := 16#32
  let v152 : BitVec 32 := Scalar.remsi v151 c16_i32_126
  let c16_i32_127 : BitVec 32 := 16#32
  let v153 : BitVec 32 := Scalar.muli v152 c16_i32_127
  let c0_i32_570 : BitVec 32 := 0#32
  ![v153.toNat, 0]
def k0_dev21 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v151 : BitVec 32 := Scalar.addi v2 c6_i32_125
  let c16_i32_126 : BitVec 32 := 16#32
  let v152 : BitVec 32 := Scalar.remsi v151 c16_i32_126
  let c1_i32_566 : BitVec 32 := 1#32
  let v516 : BitVec 32 := Scalar.muli v152 c1_i32_566
  let v517 : BitVec 32 := Scalar.addi c0_i32_567 v516
  v517.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_133 : BitVec 32 := 7#32
  let v157 : BitVec 32 := Scalar.addi v2 c7_i32_133
  let c16_i32_134 : BitVec 32 := 16#32
  let v158 : BitVec 32 := Scalar.remsi v157 c16_i32_134
  let c8_i32_136 : BitVec 32 := 8#32
  let v160 : BitVec 1 := Scalar.cmpi .slt v158 c8_i32_136
  let v161 : BitVec 32 := Scalar.extui v160
  let c0_i32_140 : BitVec 32 := 0#32
  let v162 : BitVec 1 := Scalar.cmpi .ne v161 c0_i32_140
  v162

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_133 : BitVec 32 := 7#32
  let v157 : BitVec 32 := Scalar.addi v2 c7_i32_133
  let c16_i32_134 : BitVec 32 := 16#32
  let v158 : BitVec 32 := Scalar.remsi v157 c16_i32_134
  let c16_i32_135 : BitVec 32 := 16#32
  let v159 : BitVec 32 := Scalar.muli v158 c16_i32_135
  let c0_i32_570 : BitVec 32 := 0#32
  ![v159.toNat, 0]
def k0_dev22 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_133 : BitVec 32 := 7#32
  let v157 : BitVec 32 := Scalar.addi v2 c7_i32_133
  let c16_i32_134 : BitVec 32 := 16#32
  let v158 : BitVec 32 := Scalar.remsi v157 c16_i32_134
  let c1_i32_566 : BitVec 32 := 1#32
  let v516 : BitVec 32 := Scalar.muli v158 c1_i32_566
  let v517 : BitVec 32 := Scalar.addi c0_i32_567 v516
  v517.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_141 : BitVec 32 := 8#32
  let v163 : BitVec 32 := Scalar.addi v2 c8_i32_141
  let c16_i32_142 : BitVec 32 := 16#32
  let v164 : BitVec 32 := Scalar.remsi v163 c16_i32_142
  let c8_i32_144 : BitVec 32 := 8#32
  let v166 : BitVec 1 := Scalar.cmpi .slt v164 c8_i32_144
  let v167 : BitVec 32 := Scalar.extui v166
  let c0_i32_148 : BitVec 32 := 0#32
  let v168 : BitVec 1 := Scalar.cmpi .ne v167 c0_i32_148
  v168

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_141 : BitVec 32 := 8#32
  let v163 : BitVec 32 := Scalar.addi v2 c8_i32_141
  let c16_i32_142 : BitVec 32 := 16#32
  let v164 : BitVec 32 := Scalar.remsi v163 c16_i32_142
  let c16_i32_143 : BitVec 32 := 16#32
  let v165 : BitVec 32 := Scalar.muli v164 c16_i32_143
  let c0_i32_570 : BitVec 32 := 0#32
  ![v165.toNat, 0]
def k0_dev23 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_141 : BitVec 32 := 8#32
  let v163 : BitVec 32 := Scalar.addi v2 c8_i32_141
  let c16_i32_142 : BitVec 32 := 16#32
  let v164 : BitVec 32 := Scalar.remsi v163 c16_i32_142
  let c1_i32_566 : BitVec 32 := 1#32
  let v516 : BitVec 32 := Scalar.muli v164 c1_i32_566
  let v517 : BitVec 32 := Scalar.addi c0_i32_567 v516
  v517.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_149 : BitVec 32 := 9#32
  let v169 : BitVec 32 := Scalar.addi v2 c9_i32_149
  let c16_i32_150 : BitVec 32 := 16#32
  let v170 : BitVec 32 := Scalar.remsi v169 c16_i32_150
  let c8_i32_152 : BitVec 32 := 8#32
  let v172 : BitVec 1 := Scalar.cmpi .slt v170 c8_i32_152
  let v173 : BitVec 32 := Scalar.extui v172
  let c0_i32_156 : BitVec 32 := 0#32
  let v174 : BitVec 1 := Scalar.cmpi .ne v173 c0_i32_156
  v174

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_149 : BitVec 32 := 9#32
  let v169 : BitVec 32 := Scalar.addi v2 c9_i32_149
  let c16_i32_150 : BitVec 32 := 16#32
  let v170 : BitVec 32 := Scalar.remsi v169 c16_i32_150
  let c16_i32_151 : BitVec 32 := 16#32
  let v171 : BitVec 32 := Scalar.muli v170 c16_i32_151
  let c0_i32_570 : BitVec 32 := 0#32
  ![v171.toNat, 0]
def k0_dev24 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_149 : BitVec 32 := 9#32
  let v169 : BitVec 32 := Scalar.addi v2 c9_i32_149
  let c16_i32_150 : BitVec 32 := 16#32
  let v170 : BitVec 32 := Scalar.remsi v169 c16_i32_150
  let c1_i32_566 : BitVec 32 := 1#32
  let v516 : BitVec 32 := Scalar.muli v170 c1_i32_566
  let v517 : BitVec 32 := Scalar.addi c0_i32_567 v516
  v517.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v175 : BitVec 32 := Scalar.addi v2 c10_i32_157
  let c16_i32_158 : BitVec 32 := 16#32
  let v176 : BitVec 32 := Scalar.remsi v175 c16_i32_158
  let c8_i32_160 : BitVec 32 := 8#32
  let v178 : BitVec 1 := Scalar.cmpi .slt v176 c8_i32_160
  let v179 : BitVec 32 := Scalar.extui v178
  let c0_i32_164 : BitVec 32 := 0#32
  let v180 : BitVec 1 := Scalar.cmpi .ne v179 c0_i32_164
  v180

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v175 : BitVec 32 := Scalar.addi v2 c10_i32_157
  let c16_i32_158 : BitVec 32 := 16#32
  let v176 : BitVec 32 := Scalar.remsi v175 c16_i32_158
  let c16_i32_159 : BitVec 32 := 16#32
  let v177 : BitVec 32 := Scalar.muli v176 c16_i32_159
  let c0_i32_570 : BitVec 32 := 0#32
  ![v177.toNat, 0]
def k0_dev25 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v175 : BitVec 32 := Scalar.addi v2 c10_i32_157
  let c16_i32_158 : BitVec 32 := 16#32
  let v176 : BitVec 32 := Scalar.remsi v175 c16_i32_158
  let c1_i32_566 : BitVec 32 := 1#32
  let v516 : BitVec 32 := Scalar.muli v176 c1_i32_566
  let v517 : BitVec 32 := Scalar.addi c0_i32_567 v516
  v517.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_165 : BitVec 32 := 11#32
  let v181 : BitVec 32 := Scalar.addi v2 c11_i32_165
  let c16_i32_166 : BitVec 32 := 16#32
  let v182 : BitVec 32 := Scalar.remsi v181 c16_i32_166
  let c8_i32_168 : BitVec 32 := 8#32
  let v184 : BitVec 1 := Scalar.cmpi .slt v182 c8_i32_168
  let v185 : BitVec 32 := Scalar.extui v184
  let c0_i32_172 : BitVec 32 := 0#32
  let v186 : BitVec 1 := Scalar.cmpi .ne v185 c0_i32_172
  v186

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_165 : BitVec 32 := 11#32
  let v181 : BitVec 32 := Scalar.addi v2 c11_i32_165
  let c16_i32_166 : BitVec 32 := 16#32
  let v182 : BitVec 32 := Scalar.remsi v181 c16_i32_166
  let c16_i32_167 : BitVec 32 := 16#32
  let v183 : BitVec 32 := Scalar.muli v182 c16_i32_167
  let c0_i32_570 : BitVec 32 := 0#32
  ![v183.toNat, 0]
def k0_dev26 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_165 : BitVec 32 := 11#32
  let v181 : BitVec 32 := Scalar.addi v2 c11_i32_165
  let c16_i32_166 : BitVec 32 := 16#32
  let v182 : BitVec 32 := Scalar.remsi v181 c16_i32_166
  let c1_i32_566 : BitVec 32 := 1#32
  let v516 : BitVec 32 := Scalar.muli v182 c1_i32_566
  let v517 : BitVec 32 := Scalar.addi c0_i32_567 v516
  v517.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_173 : BitVec 32 := 12#32
  let v187 : BitVec 32 := Scalar.addi v2 c12_i32_173
  let c16_i32_174 : BitVec 32 := 16#32
  let v188 : BitVec 32 := Scalar.remsi v187 c16_i32_174
  let c8_i32_176 : BitVec 32 := 8#32
  let v190 : BitVec 1 := Scalar.cmpi .slt v188 c8_i32_176
  let v191 : BitVec 32 := Scalar.extui v190
  let c0_i32_180 : BitVec 32 := 0#32
  let v192 : BitVec 1 := Scalar.cmpi .ne v191 c0_i32_180
  v192

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_173 : BitVec 32 := 12#32
  let v187 : BitVec 32 := Scalar.addi v2 c12_i32_173
  let c16_i32_174 : BitVec 32 := 16#32
  let v188 : BitVec 32 := Scalar.remsi v187 c16_i32_174
  let c16_i32_175 : BitVec 32 := 16#32
  let v189 : BitVec 32 := Scalar.muli v188 c16_i32_175
  let c0_i32_570 : BitVec 32 := 0#32
  ![v189.toNat, 0]
def k0_dev27 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_173 : BitVec 32 := 12#32
  let v187 : BitVec 32 := Scalar.addi v2 c12_i32_173
  let c16_i32_174 : BitVec 32 := 16#32
  let v188 : BitVec 32 := Scalar.remsi v187 c16_i32_174
  let c1_i32_566 : BitVec 32 := 1#32
  let v516 : BitVec 32 := Scalar.muli v188 c1_i32_566
  let v517 : BitVec 32 := Scalar.addi c0_i32_567 v516
  v517.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_181 : BitVec 32 := 13#32
  let v193 : BitVec 32 := Scalar.addi v2 c13_i32_181
  let c16_i32_182 : BitVec 32 := 16#32
  let v194 : BitVec 32 := Scalar.remsi v193 c16_i32_182
  let c8_i32_184 : BitVec 32 := 8#32
  let v196 : BitVec 1 := Scalar.cmpi .slt v194 c8_i32_184
  let v197 : BitVec 32 := Scalar.extui v196
  let c0_i32_188 : BitVec 32 := 0#32
  let v198 : BitVec 1 := Scalar.cmpi .ne v197 c0_i32_188
  v198

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_181 : BitVec 32 := 13#32
  let v193 : BitVec 32 := Scalar.addi v2 c13_i32_181
  let c16_i32_182 : BitVec 32 := 16#32
  let v194 : BitVec 32 := Scalar.remsi v193 c16_i32_182
  let c16_i32_183 : BitVec 32 := 16#32
  let v195 : BitVec 32 := Scalar.muli v194 c16_i32_183
  let c0_i32_570 : BitVec 32 := 0#32
  ![v195.toNat, 0]
def k0_dev28 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_181 : BitVec 32 := 13#32
  let v193 : BitVec 32 := Scalar.addi v2 c13_i32_181
  let c16_i32_182 : BitVec 32 := 16#32
  let v194 : BitVec 32 := Scalar.remsi v193 c16_i32_182
  let c1_i32_566 : BitVec 32 := 1#32
  let v516 : BitVec 32 := Scalar.muli v194 c1_i32_566
  let v517 : BitVec 32 := Scalar.addi c0_i32_567 v516
  v517.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_189 : BitVec 32 := 14#32
  let v199 : BitVec 32 := Scalar.addi v2 c14_i32_189
  let c16_i32_190 : BitVec 32 := 16#32
  let v200 : BitVec 32 := Scalar.remsi v199 c16_i32_190
  let c8_i32_192 : BitVec 32 := 8#32
  let v202 : BitVec 1 := Scalar.cmpi .slt v200 c8_i32_192
  let v203 : BitVec 32 := Scalar.extui v202
  let c0_i32_196 : BitVec 32 := 0#32
  let v204 : BitVec 1 := Scalar.cmpi .ne v203 c0_i32_196
  v204

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_189 : BitVec 32 := 14#32
  let v199 : BitVec 32 := Scalar.addi v2 c14_i32_189
  let c16_i32_190 : BitVec 32 := 16#32
  let v200 : BitVec 32 := Scalar.remsi v199 c16_i32_190
  let c16_i32_191 : BitVec 32 := 16#32
  let v201 : BitVec 32 := Scalar.muli v200 c16_i32_191
  let c0_i32_570 : BitVec 32 := 0#32
  ![v201.toNat, 0]
def k0_dev29 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_189 : BitVec 32 := 14#32
  let v199 : BitVec 32 := Scalar.addi v2 c14_i32_189
  let c16_i32_190 : BitVec 32 := 16#32
  let v200 : BitVec 32 := Scalar.remsi v199 c16_i32_190
  let c1_i32_566 : BitVec 32 := 1#32
  let v516 : BitVec 32 := Scalar.muli v200 c1_i32_566
  let v517 : BitVec 32 := Scalar.addi c0_i32_567 v516
  v517.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_197 : BitVec 32 := 15#32
  let v205 : BitVec 32 := Scalar.addi v2 c15_i32_197
  let c16_i32_198 : BitVec 32 := 16#32
  let v206 : BitVec 32 := Scalar.remsi v205 c16_i32_198
  let c8_i32_200 : BitVec 32 := 8#32
  let v208 : BitVec 1 := Scalar.cmpi .slt v206 c8_i32_200
  let v209 : BitVec 32 := Scalar.extui v208
  let c0_i32_204 : BitVec 32 := 0#32
  let v210 : BitVec 1 := Scalar.cmpi .ne v209 c0_i32_204
  v210

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_197 : BitVec 32 := 15#32
  let v205 : BitVec 32 := Scalar.addi v2 c15_i32_197
  let c16_i32_198 : BitVec 32 := 16#32
  let v206 : BitVec 32 := Scalar.remsi v205 c16_i32_198
  let c16_i32_199 : BitVec 32 := 16#32
  let v207 : BitVec 32 := Scalar.muli v206 c16_i32_199
  let c0_i32_570 : BitVec 32 := 0#32
  ![v207.toNat, 0]
def k0_dev30 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_197 : BitVec 32 := 15#32
  let v205 : BitVec 32 := Scalar.addi v2 c15_i32_197
  let c16_i32_198 : BitVec 32 := 16#32
  let v206 : BitVec 32 := Scalar.remsi v205 c16_i32_198
  let c1_i32_566 : BitVec 32 := 1#32
  let v516 : BitVec 32 := Scalar.muli v206 c1_i32_566
  let v517 : BitVec 32 := Scalar.addi c0_i32_567 v516
  v517.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v227 : BitVec 32 := Scalar.addi v2 c1_i32_208
  let c16_i32_209 : BitVec 32 := 16#32
  let v228 : BitVec 32 := Scalar.remsi v227 c16_i32_209
  let c8_i32_211 : BitVec 32 := 8#32
  let v230 : BitVec 1 := Scalar.cmpi .sge v228 c8_i32_211
  let v231 : BitVec 32 := Scalar.extui v230
  let c0_i32_215 : BitVec 32 := 0#32
  let v232 : BitVec 1 := Scalar.cmpi .ne v231 c0_i32_215
  v232

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v227 : BitVec 32 := Scalar.addi v2 c1_i32_208
  let c16_i32_209 : BitVec 32 := 16#32
  let v228 : BitVec 32 := Scalar.remsi v227 c16_i32_209
  let c16_i32_210 : BitVec 32 := 16#32
  let v229 : BitVec 32 := Scalar.muli v228 c16_i32_210
  let c0_i32_570 : BitVec 32 := 0#32
  ![v229.toNat, 0]
def k0_dev31 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v227 : BitVec 32 := Scalar.addi v2 c1_i32_208
  let c16_i32_209 : BitVec 32 := 16#32
  let v228 : BitVec 32 := Scalar.remsi v227 c16_i32_209
  let c1_i32_566 : BitVec 32 := 1#32
  let v516 : BitVec 32 := Scalar.muli v228 c1_i32_566
  let v517 : BitVec 32 := Scalar.addi c0_i32_567 v516
  v517.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_216 : BitVec 32 := 2#32
  let v233 : BitVec 32 := Scalar.addi v2 c2_i32_216
  let c16_i32_217 : BitVec 32 := 16#32
  let v234 : BitVec 32 := Scalar.remsi v233 c16_i32_217
  let c8_i32_219 : BitVec 32 := 8#32
  let v236 : BitVec 1 := Scalar.cmpi .sge v234 c8_i32_219
  let v237 : BitVec 32 := Scalar.extui v236
  let c0_i32_223 : BitVec 32 := 0#32
  let v238 : BitVec 1 := Scalar.cmpi .ne v237 c0_i32_223
  v238

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_216 : BitVec 32 := 2#32
  let v233 : BitVec 32 := Scalar.addi v2 c2_i32_216
  let c16_i32_217 : BitVec 32 := 16#32
  let v234 : BitVec 32 := Scalar.remsi v233 c16_i32_217
  let c16_i32_218 : BitVec 32 := 16#32
  let v235 : BitVec 32 := Scalar.muli v234 c16_i32_218
  let c0_i32_570 : BitVec 32 := 0#32
  ![v235.toNat, 0]
def k0_dev32 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_216 : BitVec 32 := 2#32
  let v233 : BitVec 32 := Scalar.addi v2 c2_i32_216
  let c16_i32_217 : BitVec 32 := 16#32
  let v234 : BitVec 32 := Scalar.remsi v233 c16_i32_217
  let c1_i32_566 : BitVec 32 := 1#32
  let v516 : BitVec 32 := Scalar.muli v234 c1_i32_566
  let v517 : BitVec 32 := Scalar.addi c0_i32_567 v516
  v517.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v239 : BitVec 32 := Scalar.addi v2 c3_i32_224
  let c16_i32_225 : BitVec 32 := 16#32
  let v240 : BitVec 32 := Scalar.remsi v239 c16_i32_225
  let c8_i32_227 : BitVec 32 := 8#32
  let v242 : BitVec 1 := Scalar.cmpi .sge v240 c8_i32_227
  let v243 : BitVec 32 := Scalar.extui v242
  let c0_i32_231 : BitVec 32 := 0#32
  let v244 : BitVec 1 := Scalar.cmpi .ne v243 c0_i32_231
  v244

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v239 : BitVec 32 := Scalar.addi v2 c3_i32_224
  let c16_i32_225 : BitVec 32 := 16#32
  let v240 : BitVec 32 := Scalar.remsi v239 c16_i32_225
  let c16_i32_226 : BitVec 32 := 16#32
  let v241 : BitVec 32 := Scalar.muli v240 c16_i32_226
  let c0_i32_570 : BitVec 32 := 0#32
  ![v241.toNat, 0]
def k0_dev33 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v239 : BitVec 32 := Scalar.addi v2 c3_i32_224
  let c16_i32_225 : BitVec 32 := 16#32
  let v240 : BitVec 32 := Scalar.remsi v239 c16_i32_225
  let c1_i32_566 : BitVec 32 := 1#32
  let v516 : BitVec 32 := Scalar.muli v240 c1_i32_566
  let v517 : BitVec 32 := Scalar.addi c0_i32_567 v516
  v517.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v245 : BitVec 32 := Scalar.addi v2 c4_i32_232
  let c16_i32_233 : BitVec 32 := 16#32
  let v246 : BitVec 32 := Scalar.remsi v245 c16_i32_233
  let c8_i32_235 : BitVec 32 := 8#32
  let v248 : BitVec 1 := Scalar.cmpi .sge v246 c8_i32_235
  let v249 : BitVec 32 := Scalar.extui v248
  let c0_i32_239 : BitVec 32 := 0#32
  let v250 : BitVec 1 := Scalar.cmpi .ne v249 c0_i32_239
  v250

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v245 : BitVec 32 := Scalar.addi v2 c4_i32_232
  let c16_i32_233 : BitVec 32 := 16#32
  let v246 : BitVec 32 := Scalar.remsi v245 c16_i32_233
  let c16_i32_234 : BitVec 32 := 16#32
  let v247 : BitVec 32 := Scalar.muli v246 c16_i32_234
  let c0_i32_570 : BitVec 32 := 0#32
  ![v247.toNat, 0]
def k0_dev34 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v245 : BitVec 32 := Scalar.addi v2 c4_i32_232
  let c16_i32_233 : BitVec 32 := 16#32
  let v246 : BitVec 32 := Scalar.remsi v245 c16_i32_233
  let c1_i32_566 : BitVec 32 := 1#32
  let v516 : BitVec 32 := Scalar.muli v246 c1_i32_566
  let v517 : BitVec 32 := Scalar.addi c0_i32_567 v516
  v517.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_240 : BitVec 32 := 5#32
  let v251 : BitVec 32 := Scalar.addi v2 c5_i32_240
  let c16_i32_241 : BitVec 32 := 16#32
  let v252 : BitVec 32 := Scalar.remsi v251 c16_i32_241
  let c8_i32_243 : BitVec 32 := 8#32
  let v254 : BitVec 1 := Scalar.cmpi .sge v252 c8_i32_243
  let v255 : BitVec 32 := Scalar.extui v254
  let c0_i32_247 : BitVec 32 := 0#32
  let v256 : BitVec 1 := Scalar.cmpi .ne v255 c0_i32_247
  v256

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_240 : BitVec 32 := 5#32
  let v251 : BitVec 32 := Scalar.addi v2 c5_i32_240
  let c16_i32_241 : BitVec 32 := 16#32
  let v252 : BitVec 32 := Scalar.remsi v251 c16_i32_241
  let c16_i32_242 : BitVec 32 := 16#32
  let v253 : BitVec 32 := Scalar.muli v252 c16_i32_242
  let c0_i32_570 : BitVec 32 := 0#32
  ![v253.toNat, 0]
def k0_dev35 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_240 : BitVec 32 := 5#32
  let v251 : BitVec 32 := Scalar.addi v2 c5_i32_240
  let c16_i32_241 : BitVec 32 := 16#32
  let v252 : BitVec 32 := Scalar.remsi v251 c16_i32_241
  let c1_i32_566 : BitVec 32 := 1#32
  let v516 : BitVec 32 := Scalar.muli v252 c1_i32_566
  let v517 : BitVec 32 := Scalar.addi c0_i32_567 v516
  v517.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_248 : BitVec 32 := 6#32
  let v257 : BitVec 32 := Scalar.addi v2 c6_i32_248
  let c16_i32_249 : BitVec 32 := 16#32
  let v258 : BitVec 32 := Scalar.remsi v257 c16_i32_249
  let c8_i32_251 : BitVec 32 := 8#32
  let v260 : BitVec 1 := Scalar.cmpi .sge v258 c8_i32_251
  let v261 : BitVec 32 := Scalar.extui v260
  let c0_i32_255 : BitVec 32 := 0#32
  let v262 : BitVec 1 := Scalar.cmpi .ne v261 c0_i32_255
  v262

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_248 : BitVec 32 := 6#32
  let v257 : BitVec 32 := Scalar.addi v2 c6_i32_248
  let c16_i32_249 : BitVec 32 := 16#32
  let v258 : BitVec 32 := Scalar.remsi v257 c16_i32_249
  let c16_i32_250 : BitVec 32 := 16#32
  let v259 : BitVec 32 := Scalar.muli v258 c16_i32_250
  let c0_i32_570 : BitVec 32 := 0#32
  ![v259.toNat, 0]
def k0_dev36 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_248 : BitVec 32 := 6#32
  let v257 : BitVec 32 := Scalar.addi v2 c6_i32_248
  let c16_i32_249 : BitVec 32 := 16#32
  let v258 : BitVec 32 := Scalar.remsi v257 c16_i32_249
  let c1_i32_566 : BitVec 32 := 1#32
  let v516 : BitVec 32 := Scalar.muli v258 c1_i32_566
  let v517 : BitVec 32 := Scalar.addi c0_i32_567 v516
  v517.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_256 : BitVec 32 := 7#32
  let v263 : BitVec 32 := Scalar.addi v2 c7_i32_256
  let c16_i32_257 : BitVec 32 := 16#32
  let v264 : BitVec 32 := Scalar.remsi v263 c16_i32_257
  let c8_i32_259 : BitVec 32 := 8#32
  let v266 : BitVec 1 := Scalar.cmpi .sge v264 c8_i32_259
  let v267 : BitVec 32 := Scalar.extui v266
  let c0_i32_263 : BitVec 32 := 0#32
  let v268 : BitVec 1 := Scalar.cmpi .ne v267 c0_i32_263
  v268

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_256 : BitVec 32 := 7#32
  let v263 : BitVec 32 := Scalar.addi v2 c7_i32_256
  let c16_i32_257 : BitVec 32 := 16#32
  let v264 : BitVec 32 := Scalar.remsi v263 c16_i32_257
  let c16_i32_258 : BitVec 32 := 16#32
  let v265 : BitVec 32 := Scalar.muli v264 c16_i32_258
  let c0_i32_570 : BitVec 32 := 0#32
  ![v265.toNat, 0]
def k0_dev37 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_256 : BitVec 32 := 7#32
  let v263 : BitVec 32 := Scalar.addi v2 c7_i32_256
  let c16_i32_257 : BitVec 32 := 16#32
  let v264 : BitVec 32 := Scalar.remsi v263 c16_i32_257
  let c1_i32_566 : BitVec 32 := 1#32
  let v516 : BitVec 32 := Scalar.muli v264 c1_i32_566
  let v517 : BitVec 32 := Scalar.addi c0_i32_567 v516
  v517.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_264 : BitVec 32 := 8#32
  let v269 : BitVec 32 := Scalar.addi v2 c8_i32_264
  let c16_i32_265 : BitVec 32 := 16#32
  let v270 : BitVec 32 := Scalar.remsi v269 c16_i32_265
  let c8_i32_267 : BitVec 32 := 8#32
  let v272 : BitVec 1 := Scalar.cmpi .sge v270 c8_i32_267
  let v273 : BitVec 32 := Scalar.extui v272
  let c0_i32_271 : BitVec 32 := 0#32
  let v274 : BitVec 1 := Scalar.cmpi .ne v273 c0_i32_271
  v274

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_264 : BitVec 32 := 8#32
  let v269 : BitVec 32 := Scalar.addi v2 c8_i32_264
  let c16_i32_265 : BitVec 32 := 16#32
  let v270 : BitVec 32 := Scalar.remsi v269 c16_i32_265
  let c16_i32_266 : BitVec 32 := 16#32
  let v271 : BitVec 32 := Scalar.muli v270 c16_i32_266
  let c0_i32_570 : BitVec 32 := 0#32
  ![v271.toNat, 0]
def k0_dev38 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_264 : BitVec 32 := 8#32
  let v269 : BitVec 32 := Scalar.addi v2 c8_i32_264
  let c16_i32_265 : BitVec 32 := 16#32
  let v270 : BitVec 32 := Scalar.remsi v269 c16_i32_265
  let c1_i32_566 : BitVec 32 := 1#32
  let v516 : BitVec 32 := Scalar.muli v270 c1_i32_566
  let v517 : BitVec 32 := Scalar.addi c0_i32_567 v516
  v517.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_272 : BitVec 32 := 9#32
  let v275 : BitVec 32 := Scalar.addi v2 c9_i32_272
  let c16_i32_273 : BitVec 32 := 16#32
  let v276 : BitVec 32 := Scalar.remsi v275 c16_i32_273
  let c8_i32_275 : BitVec 32 := 8#32
  let v278 : BitVec 1 := Scalar.cmpi .sge v276 c8_i32_275
  let v279 : BitVec 32 := Scalar.extui v278
  let c0_i32_279 : BitVec 32 := 0#32
  let v280 : BitVec 1 := Scalar.cmpi .ne v279 c0_i32_279
  v280

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_272 : BitVec 32 := 9#32
  let v275 : BitVec 32 := Scalar.addi v2 c9_i32_272
  let c16_i32_273 : BitVec 32 := 16#32
  let v276 : BitVec 32 := Scalar.remsi v275 c16_i32_273
  let c16_i32_274 : BitVec 32 := 16#32
  let v277 : BitVec 32 := Scalar.muli v276 c16_i32_274
  let c0_i32_570 : BitVec 32 := 0#32
  ![v277.toNat, 0]
def k0_dev39 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_272 : BitVec 32 := 9#32
  let v275 : BitVec 32 := Scalar.addi v2 c9_i32_272
  let c16_i32_273 : BitVec 32 := 16#32
  let v276 : BitVec 32 := Scalar.remsi v275 c16_i32_273
  let c1_i32_566 : BitVec 32 := 1#32
  let v516 : BitVec 32 := Scalar.muli v276 c1_i32_566
  let v517 : BitVec 32 := Scalar.addi c0_i32_567 v516
  v517.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_280 : BitVec 32 := 10#32
  let v281 : BitVec 32 := Scalar.addi v2 c10_i32_280
  let c16_i32_281 : BitVec 32 := 16#32
  let v282 : BitVec 32 := Scalar.remsi v281 c16_i32_281
  let c8_i32_283 : BitVec 32 := 8#32
  let v284 : BitVec 1 := Scalar.cmpi .sge v282 c8_i32_283
  let v285 : BitVec 32 := Scalar.extui v284
  let c0_i32_287 : BitVec 32 := 0#32
  let v286 : BitVec 1 := Scalar.cmpi .ne v285 c0_i32_287
  v286

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_280 : BitVec 32 := 10#32
  let v281 : BitVec 32 := Scalar.addi v2 c10_i32_280
  let c16_i32_281 : BitVec 32 := 16#32
  let v282 : BitVec 32 := Scalar.remsi v281 c16_i32_281
  let c16_i32_282 : BitVec 32 := 16#32
  let v283 : BitVec 32 := Scalar.muli v282 c16_i32_282
  let c0_i32_570 : BitVec 32 := 0#32
  ![v283.toNat, 0]
def k0_dev40 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_280 : BitVec 32 := 10#32
  let v281 : BitVec 32 := Scalar.addi v2 c10_i32_280
  let c16_i32_281 : BitVec 32 := 16#32
  let v282 : BitVec 32 := Scalar.remsi v281 c16_i32_281
  let c1_i32_566 : BitVec 32 := 1#32
  let v516 : BitVec 32 := Scalar.muli v282 c1_i32_566
  let v517 : BitVec 32 := Scalar.addi c0_i32_567 v516
  v517.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v287 : BitVec 32 := Scalar.addi v2 c11_i32_288
  let c16_i32_289 : BitVec 32 := 16#32
  let v288 : BitVec 32 := Scalar.remsi v287 c16_i32_289
  let c8_i32_291 : BitVec 32 := 8#32
  let v290 : BitVec 1 := Scalar.cmpi .sge v288 c8_i32_291
  let v291 : BitVec 32 := Scalar.extui v290
  let c0_i32_295 : BitVec 32 := 0#32
  let v292 : BitVec 1 := Scalar.cmpi .ne v291 c0_i32_295
  v292

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v287 : BitVec 32 := Scalar.addi v2 c11_i32_288
  let c16_i32_289 : BitVec 32 := 16#32
  let v288 : BitVec 32 := Scalar.remsi v287 c16_i32_289
  let c16_i32_290 : BitVec 32 := 16#32
  let v289 : BitVec 32 := Scalar.muli v288 c16_i32_290
  let c0_i32_570 : BitVec 32 := 0#32
  ![v289.toNat, 0]
def k0_dev41 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v287 : BitVec 32 := Scalar.addi v2 c11_i32_288
  let c16_i32_289 : BitVec 32 := 16#32
  let v288 : BitVec 32 := Scalar.remsi v287 c16_i32_289
  let c1_i32_566 : BitVec 32 := 1#32
  let v516 : BitVec 32 := Scalar.muli v288 c1_i32_566
  let v517 : BitVec 32 := Scalar.addi c0_i32_567 v516
  v517.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_296 : BitVec 32 := 12#32
  let v293 : BitVec 32 := Scalar.addi v2 c12_i32_296
  let c16_i32_297 : BitVec 32 := 16#32
  let v294 : BitVec 32 := Scalar.remsi v293 c16_i32_297
  let c8_i32_299 : BitVec 32 := 8#32
  let v296 : BitVec 1 := Scalar.cmpi .sge v294 c8_i32_299
  let v297 : BitVec 32 := Scalar.extui v296
  let c0_i32_303 : BitVec 32 := 0#32
  let v298 : BitVec 1 := Scalar.cmpi .ne v297 c0_i32_303
  v298

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_296 : BitVec 32 := 12#32
  let v293 : BitVec 32 := Scalar.addi v2 c12_i32_296
  let c16_i32_297 : BitVec 32 := 16#32
  let v294 : BitVec 32 := Scalar.remsi v293 c16_i32_297
  let c16_i32_298 : BitVec 32 := 16#32
  let v295 : BitVec 32 := Scalar.muli v294 c16_i32_298
  let c0_i32_570 : BitVec 32 := 0#32
  ![v295.toNat, 0]
def k0_dev42 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_296 : BitVec 32 := 12#32
  let v293 : BitVec 32 := Scalar.addi v2 c12_i32_296
  let c16_i32_297 : BitVec 32 := 16#32
  let v294 : BitVec 32 := Scalar.remsi v293 c16_i32_297
  let c1_i32_566 : BitVec 32 := 1#32
  let v516 : BitVec 32 := Scalar.muli v294 c1_i32_566
  let v517 : BitVec 32 := Scalar.addi c0_i32_567 v516
  v517.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_304 : BitVec 32 := 13#32
  let v299 : BitVec 32 := Scalar.addi v2 c13_i32_304
  let c16_i32_305 : BitVec 32 := 16#32
  let v300 : BitVec 32 := Scalar.remsi v299 c16_i32_305
  let c8_i32_307 : BitVec 32 := 8#32
  let v302 : BitVec 1 := Scalar.cmpi .sge v300 c8_i32_307
  let v303 : BitVec 32 := Scalar.extui v302
  let c0_i32_311 : BitVec 32 := 0#32
  let v304 : BitVec 1 := Scalar.cmpi .ne v303 c0_i32_311
  v304

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_304 : BitVec 32 := 13#32
  let v299 : BitVec 32 := Scalar.addi v2 c13_i32_304
  let c16_i32_305 : BitVec 32 := 16#32
  let v300 : BitVec 32 := Scalar.remsi v299 c16_i32_305
  let c16_i32_306 : BitVec 32 := 16#32
  let v301 : BitVec 32 := Scalar.muli v300 c16_i32_306
  let c0_i32_570 : BitVec 32 := 0#32
  ![v301.toNat, 0]
def k0_dev43 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_304 : BitVec 32 := 13#32
  let v299 : BitVec 32 := Scalar.addi v2 c13_i32_304
  let c16_i32_305 : BitVec 32 := 16#32
  let v300 : BitVec 32 := Scalar.remsi v299 c16_i32_305
  let c1_i32_566 : BitVec 32 := 1#32
  let v516 : BitVec 32 := Scalar.muli v300 c1_i32_566
  let v517 : BitVec 32 := Scalar.addi c0_i32_567 v516
  v517.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_312 : BitVec 32 := 14#32
  let v305 : BitVec 32 := Scalar.addi v2 c14_i32_312
  let c16_i32_313 : BitVec 32 := 16#32
  let v306 : BitVec 32 := Scalar.remsi v305 c16_i32_313
  let c8_i32_315 : BitVec 32 := 8#32
  let v308 : BitVec 1 := Scalar.cmpi .sge v306 c8_i32_315
  let v309 : BitVec 32 := Scalar.extui v308
  let c0_i32_319 : BitVec 32 := 0#32
  let v310 : BitVec 1 := Scalar.cmpi .ne v309 c0_i32_319
  v310

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_312 : BitVec 32 := 14#32
  let v305 : BitVec 32 := Scalar.addi v2 c14_i32_312
  let c16_i32_313 : BitVec 32 := 16#32
  let v306 : BitVec 32 := Scalar.remsi v305 c16_i32_313
  let c16_i32_314 : BitVec 32 := 16#32
  let v307 : BitVec 32 := Scalar.muli v306 c16_i32_314
  let c0_i32_570 : BitVec 32 := 0#32
  ![v307.toNat, 0]
def k0_dev44 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_312 : BitVec 32 := 14#32
  let v305 : BitVec 32 := Scalar.addi v2 c14_i32_312
  let c16_i32_313 : BitVec 32 := 16#32
  let v306 : BitVec 32 := Scalar.remsi v305 c16_i32_313
  let c1_i32_566 : BitVec 32 := 1#32
  let v516 : BitVec 32 := Scalar.muli v306 c1_i32_566
  let v517 : BitVec 32 := Scalar.addi c0_i32_567 v516
  v517.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_320 : BitVec 32 := 15#32
  let v311 : BitVec 32 := Scalar.addi v2 c15_i32_320
  let c16_i32_321 : BitVec 32 := 16#32
  let v312 : BitVec 32 := Scalar.remsi v311 c16_i32_321
  let c8_i32_323 : BitVec 32 := 8#32
  let v314 : BitVec 1 := Scalar.cmpi .sge v312 c8_i32_323
  let v315 : BitVec 32 := Scalar.extui v314
  let c0_i32_327 : BitVec 32 := 0#32
  let v316 : BitVec 1 := Scalar.cmpi .ne v315 c0_i32_327
  v316

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_320 : BitVec 32 := 15#32
  let v311 : BitVec 32 := Scalar.addi v2 c15_i32_320
  let c16_i32_321 : BitVec 32 := 16#32
  let v312 : BitVec 32 := Scalar.remsi v311 c16_i32_321
  let c16_i32_322 : BitVec 32 := 16#32
  let v313 : BitVec 32 := Scalar.muli v312 c16_i32_322
  let c0_i32_570 : BitVec 32 := 0#32
  ![v313.toNat, 0]
def k0_dev45 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_320 : BitVec 32 := 15#32
  let v311 : BitVec 32 := Scalar.addi v2 c15_i32_320
  let c16_i32_321 : BitVec 32 := 16#32
  let v312 : BitVec 32 := Scalar.remsi v311 c16_i32_321
  let c1_i32_566 : BitVec 32 := 1#32
  let v516 : BitVec 32 := Scalar.muli v312 c1_i32_566
  let v517 : BitVec 32 := Scalar.addi c0_i32_567 v516
  v517.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_328 : BitVec 32 := 16#32
  let v317 : BitVec 32 := Scalar.muli v2 c16_i32_328
  let v318 : Index := Scalar.indexCast v317
  let c0_329 : Index := 0#32
  ![v318.toNat, 0]
def k0_off32 (d0 : Dev nD) (c1_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v121 : BitVec 32 := Scalar.addi v2 c1_i32_85
  let c16_i32_86 : BitVec 32 := 16#32
  let v122 : BitVec 32 := Scalar.remsi v121 c16_i32_86
  let c16_i32_87 : BitVec 32 := 16#32
  let v123 : BitVec 32 := Scalar.muli v122 c16_i32_87
  let c0_i32_340 : BitVec 32 := 0#32
  ![v123.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_453 : BitVec 32 := 16#32
  let v431 : BitVec 32 := Scalar.muli v2 c16_i32_453
  let v432 : Index := Scalar.indexCast v431
  let c0_454 : Index := 0#32
  ![v432.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S128x256 : Shape := ⟨2, ![128, 256]⟩
abbrev S256x32 : Shape := ⟨2, ![256, 32]⟩
abbrev S_ : Shape := ⟨0, ![]⟩
abbrev S256 : Shape := ⟨1, ![256]⟩
abbrev S256x256 : Shape := ⟨2, ![256, 256]⟩
abbrev S256x1x1 : Shape := ⟨3, ![256, 1, 1]⟩
abbrev S1 : Shape := ⟨1, ![1]⟩
abbrev S1x1 : Shape := ⟨2, ![1, 1]⟩
abbrev S256x128x256 : Shape := ⟨3, ![256, 128, 256]⟩

abbrev nBuf : Space → Nat
  | .hbm => 48
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S32x128x256, .f32⟩
  | .hbm, ⟨4, _⟩ => ⟨S128x256, .f32⟩
  | .hbm, ⟨5, _⟩ => ⟨S256x32, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x32, .f32⟩
  | .hbm, ⟨16, _⟩ => ⟨S256x32, .f32⟩
  | .hbm, ⟨17, _⟩ => ⟨S256x256, .f32⟩
  | .hbm, ⟨18, _⟩ => ⟨S256, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S256x1x1, .i32⟩
  | .hbm, ⟨27, _⟩ => ⟨S256x1, .f32⟩
  | .hbm, ⟨28, _⟩ => ⟨S256x1, .i32⟩
  | .hbm, ⟨29, _⟩ => ⟨S1, .i32⟩
  | .hbm, ⟨30, _⟩ => ⟨S_, .i32⟩
  | .hbm, ⟨31, _⟩ => ⟨S256x1, .i32⟩
  | .hbm, ⟨32, _⟩ => ⟨S256x1, .i1⟩
  | .hbm, ⟨33, _⟩ => ⟨S1x1, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i1⟩
  | .hbm, ⟨38, _⟩ => ⟨S256, .i1⟩
  | .hbm, ⟨39, _⟩ => ⟨S256x128x256, .f32⟩
  | .hbm, ⟨40, _⟩ => ⟨S256x128x256, .i1⟩
  | .hbm, ⟨41, _⟩ => ⟨S_, .f32⟩
  | .hbm, ⟨42, _⟩ => ⟨S256x128x256, .f32⟩
  | .hbm, ⟨43, _⟩ => ⟨S256x128x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Proof.Layout.lean ====
/-
# The kernel's two scratch buffers, cut into blocks

The send buffer (256 × 256) holds one block of sixteen rows per device; the receive buffer (16 × 16 × 256) holds one
slot per offset round the mesh. This module names the memrefs and the DMA semaphores the kernel addresses, and the
element sets of the blocks and slots: which indices they hold, that they are disjoint, and that they cover.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Moe

open Cert.KernelIdeal Cert.KernelIdeal.Gen

open Idealize.ShloMosaic
open Idealize.ShloMosaic.TcCoe

/-! ## Memrefs and semaphores -/

/-- The send buffer and the receive buffer, whole. -/
abbrev sM : Memref sig .tc .vmem S256x256 .bf16 := Memref.whole cc0_scratch0
abbrev rM : Memref sig .tc .vmem S16x16x256 .bf16 := Memref.whole cc0_scratch1

/-- Sixteen rows of the send buffer from the offsets `off`; the slot of the receive buffer at the offsets `off`. -/
abbrev rowsM (off : Fin 2 → Nat) (h : ∀ a, off a + S16x256.size a ≤ S256x256.size a) : Memref sig .tc .vmem S16x256 .bf16 :=
  sM.slice (Rect.unit (s := S256x256) off S16x256.size h) (fun _ => rfl)
abbrev slotM (off : Fin 3 → Nat) (h : ∀ a, off a + S1x16x256.size a ≤ S16x16x256.size a) : Memref sig .tc .vmem S16x256 .bf16 :=
  (rM.slice (Rect.unit (s := S16x16x256) off S1x16x256.size h) (fun _ => rfl)).squeeze S16x256 squeezes_S1x16x256_S16x256

/-- The barrier semaphore, and the send and receive semaphores at the offset `off`. -/
abbrev barS : Sem sig := (SemArray.scalar (sig.barrier 0 rfl) : Sems sig S_).sem
abbrev sendS (off : Fin 1 → Nat) (h : ∀ a, off a + S1.size a ≤ S16.size a) : DmaSem sig :=
  ((cc0_scratch2.slice (Rect.unit (s := S16) off S1.size h)).squeeze S_ squeezes_S1_S_).sem
abbrev recvS (off : Fin 1 → Nat) (h : ∀ a, off a + S1.size a ≤ S16.size a) : DmaSem sig :=
  ((cc0_scratch3.slice (Rect.unit (s := S16) off S1.size h)).squeeze S_ squeezes_S1_S_).sem

/-- The same two semaphores by their numbers in the signature. -/
def sendQ (o : Fin 16) : DmaSem sig := ⟨6 + o.val, by have := o.isLt; show 6 + o.val < 38; omega⟩
def recvQ (o : Fin 16) : DmaSem sig := ⟨22 + o.val, by have := o.isLt; show 22 + o.val < 38; omega⟩

theorem inbSem (o : Fin 16) : ∀ a, (![o.val] : Fin 1 → Nat) a + S1.size a ≤ S16.size a := by revert o; decide
theorem inbRows (d : Fin 16) : ∀ a, (![16 * d.val, 0] : Fin 2 → Nat) a + S16x256.size a ≤ S256x256.size a := by revert d; decide
theorem inbSlot (o : Fin 16) : ∀ a, (![o.val, 0, 0] : Fin 3 → Nat) a + S1x16x256.size a ≤ S16x16x256.size a := by revert o; decide

theorem sendS_eq : ∀ o : Fin 16, sendS ![o.val] (inbSem o) = sendQ o := by decide +kernel
theorem recvS_eq : ∀ o : Fin 16, recvS ![o.val] (inbSem o) = recvQ o := by decide +kernel

/-- The offset a send or receive semaphore stands for: both arrays start at a number congruent to 6 modulo 16. -/
def offOf (q : DmaSem sig) : Fin 16 := ⟨(q.val + 10) % 16, Nat.mod_lt _ (by decide)⟩
theorem offOf_sendQ : ∀ o : Fin 16, offOf (sendQ o) = o := by decide +kernel
theorem offOf_recvQ : ∀ o : Fin 16, offOf (recvQ o) = o := by decide +kernel

/-! ## Element sets -/

/-- The rectangle, and the elements, of device `d`'s block of rows in the send buffer; of slot `o` of the receive buffer. -/
abbrev rowsR (d : Fin 16) : Rect S256x256 := Rect.unit (s := S256x256) ![16 * d.val, 0] S16x256.size (inbRows d)
abbrev slotR (o : Fin 16) : Rect S16x16x256 := Rect.unit (s := S16x16x256) ![o.val, 0, 0] S1x16x256.size (inbSlot o)
def rowsE (d : Fin 16) : Finset S256x256.Idx := (rowsR d).set
def slotE (o : Fin 16) : Finset S16x16x256.Idx := (slotR o).set

theorem mem_rowsE {d : Fin 16} {i : S256x256.Idx} : i ∈ rowsE d ↔ (i 0).val / 16 = d.val := by
  unfold rowsE
  rw [Rect.mem_set_unit, Fin.forall_fin_two]
  have h0 := (i 0).isLt
  have h1 := (i 1).isLt
  show (16 * d.val ≤ (i 0).val ∧ (i 0).val < 16 * d.val + 16) ∧ (0 ≤ (i 1).val ∧ (i 1).val < 0 + 256) ↔ _
  have h1' : (i 1).val < 256 := h1
  omega

theorem mem_slotE {o : Fin 16} {i : S16x16x256.Idx} : i ∈ slotE o ↔ (i 0).val = o.val := by
  unfold slotE
  rw [Rect.mem_set_unit, Fin.forall_fin_succ, Fin.forall_fin_two]
  have h1 : (i 1).val < 16 := (i 1).isLt
  have h2 : (i 2).val < 256 := (i 2).isLt
  show (o.val ≤ (i 0).val ∧ (i 0).val < o.val + 1) ∧ (0 ≤ (i 1).val ∧ (i 1).val < 0 + 16) ∧ (0 ≤ (i 2).val ∧ (i 2).val < 0 + 256) ↔ _
  omega

theorem rowsE_disjoint (d d' : Fin 16) (h : d ≠ d') : Disjoint (rowsE d) (rowsE d') :=
  Finset.disjoint_left.mpr fun i hi hi' => h (Fin.ext ((mem_rowsE.mp hi).symm.trans (mem_rowsE.mp hi')))
theorem slotE_disjoint (o o' : Fin 16) (h : o ≠ o') : Disjoint (slotE o) (slotE o') :=
  Finset.disjoint_left.mpr fun i hi hi' => h (Fin.ext ((mem_slotE.mp hi).symm.trans (mem_slotE.mp hi')))
theorem rowsE_cover : Finset.univ.biUnion rowsE = Finset.univ :=
  Finset.eq_univ_iff_forall.mpr fun i => Finset.mem_biUnion.mpr
    ⟨⟨(i 0).val / 16, by have h : (i 0).val < 256 := (i 0).isLt; omega⟩, Finset.mem_univ _, mem_rowsE.mpr rfl⟩
theorem slotE_cover : Finset.univ.biUnion slotE = Finset.univ :=
  Finset.eq_univ_iff_forall.mpr fun i => Finset.mem_biUnion.mpr ⟨⟨(i 0).val, (i 0).isLt⟩, Finset.mem_univ _, mem_slotE.mpr rfl⟩

/-- A device whose block lies in the upper half of the send buffer. -/
abbrev low (d : Fin 16) : Prop := d.val < 8

/-- The rectangles of the two halves of the send buffer and of the receive buffer's slots but the first. -/
abbrev halfR0 : Rect S256x256 := Rect.unit (s := S256x256) ![0, 0] S128x256.size inb_S256x256_S128x256_0_0
abbrev halfR1 : Rect S256x256 := Rect.unit (s := S256x256) ![128, 0] S128x256.size inb_S256x256_S128x256_128_0
abbrev tailR : Rect S16x16x256 := Rect.unit (s := S16x16x256) ![1, 0, 0] S15x16x256.size inb_S16x16x256_S15x16x256_1_0_0

theorem mem_halfR0 {i : S256x256.Idx} : i ∈ halfR0.set ↔ (i 0).val < 128 := by
  rw [Rect.mem_set_unit, Fin.forall_fin_two]
  have h1 : (i 1).val < 256 := (i 1).isLt
  show (0 ≤ (i 0).val ∧ (i 0).val < 0 + 128) ∧ (0 ≤ (i 1).val ∧ (i 1).val < 0 + 256) ↔ _
  omega
theorem mem_halfR1 {i : S256x256.Idx} : i ∈ halfR1.set ↔ 128 ≤ (i 0).val := by
  rw [Rect.mem_set_unit, Fin.forall_fin_two]
  have h0 : (i 0).val < 256 := (i 0).isLt
  have h1 : (i 1).val < 256 := (i 1).isLt
  show (128 ≤ (i 0).val ∧ (i 0).val < 128 + 128) ∧ (0 ≤ (i 1).val ∧ (i 1).val < 0 + 256) ↔ _
  omega
theorem mem_tailR {i : S16x16x256.Idx} : i ∈ tailR.set ↔ (i 0).val ≠ 0 := by
  rw [Rect.mem_set_unit, Fin.forall_fin_succ, Fin.forall_fin_two]
  have h0 : (i 0).val < 16 := (i 0).isLt
  have h1 : (i 1).val < 16 := (i 1).isLt
  have h2 : (i 2).val < 256 := (i 2).isLt
  show (1 ≤ (i 0).val ∧ (i 0).val < 1 + 15) ∧ (0 ≤ (i 1).val ∧ (i 1).val < 0 + 16) ∧ (0 ≤ (i 2).val ∧ (i 2).val < 0 + 256) ↔ _
  omega

/-- The offsets a device sends at: all but zero. -/
abbrev offs : Finset (Fin 16) := Finset.univ.erase 0

theorem mem_offs {o : Fin 16} : o ∈ offs ↔ o ≠ 0 := by simp

theorem halfR1_cover : (Finset.univ.filter (fun d : Fin 16 => ¬ low d)).biUnion rowsE = halfR1.set := by
  ext i
  have h0 : (i 0).val < 256 := (i 0).isLt
  simp only [Finset.mem_biUnion, Finset.mem_filter, Finset.mem_univ, true_and, mem_rowsE, mem_halfR1]
  constructor
  · rintro ⟨d, hd, e⟩; unfold low at hd; omega
  · intro h; exact ⟨⟨(i 0).val / 16, by omega⟩, by show ¬ ((i 0).val / 16 < 8); omega, rfl⟩
theorem halfR0_cover : (Finset.univ.filter (fun d : Fin 16 => low d)).biUnion rowsE = halfR0.set := by
  ext i
  have h0 : (i 0).val < 256 := (i 0).isLt
  simp only [Finset.mem_biUnion, Finset.mem_filter, Finset.mem_univ, true_and, mem_rowsE, mem_halfR0]
  constructor
  · rintro ⟨d, hd, e⟩; unfold low at hd; omega
  · intro h; exact ⟨⟨(i 0).val / 16, by omega⟩, by show (i 0).val / 16 < 8; omega, rfl⟩
theorem tailR_cover : offs.biUnion slotE = tailR.set := by
  ext i
  simp only [Finset.mem_biUnion, mem_offs, mem_slotE, mem_tailR]
  constructor
  · rintro ⟨o, ho, e⟩ h; exact ho (Fin.ext (e.symm.trans h))
  · intro h; exact ⟨⟨(i 0).val, (i 0).isLt⟩, fun e => h (congrArg Fin.val e), rfl⟩

theorem rows_set (d : Fin 16) : (rowsM ![16 * d.val, 0] (inbRows d)).view.set = rowsE d := by
  unfold rowsE; exact View.set_slice_whole _ _
theorem slot_set (o : Fin 16) : (slotM ![o.val, 0, 0] (inbSlot o)).view.set = slotE o := by
  unfold slotE; exact (View.set_reshape _ _).trans (View.set_slice_whole _ _)

end Cert.Moe

end
-- ==== Proof.Contents.lean ====
/-
# What the buffers hold

From the five arguments each device is given, as the pipeline stages them: what a device writes into its send buffer,
what its receive buffer holds once every other device's block has landed, and the block of the result it writes.
-/
module

public import proofs.«01_k».proof.Proof.Layout

@[expose] public section

noncomputable section

namespace Cert.Moe

open Cert.KernelIdeal Cert.KernelIdeal.Gen

open Idealize.ShloMosaic
open Idealize.ShloMosaic.TcCoe

variable {F : FTy → Type} [FloatOps F]

/-- One device's arguments: the tokens, the router's weights, the chosen experts, the two experts it holds, the shared
    expert. -/
structure Args (F : FTy → Type) where
  x : (cc0_stg0_0 : Ref sig .tc).ty.Contents (Elt F)
  rw : (cc0_stg1_0 : Ref sig .tc).ty.Contents (Elt F)
  ix : (cc0_stg2_0 : Ref sig .tc).ty.Contents (Elt F)
  ew : (cc0_stg3_0 : Ref sig .tc).ty.Contents (Elt F)
  sw : (cc0_stg4_0 : Ref sig .tc).ty.Contents (Elt F)

/-- The device's position along the mesh axis, as the word the kernel computes. -/
def pos (c : Dev nD) : BitVec 32 := Scalar.remsi (Scalar.divsi (Dev.word c) 1#32) 16#32

abbrev ewR0 : Rect S2x128x256 := Rect.unit (s := S2x128x256) ![0, 0, 0] S1x128x256.size inb_S2x128x256_S1x128x256_0_0_0
abbrev ewR1 : Rect S2x128x256 := Rect.unit (s := S2x128x256) ![1, 0, 0] S1x128x256.size inb_S2x128x256_S1x128x256_1_0_0

/-- The two experts' weights as loaded. -/
def ew0 (a : Args F) : Vec F S1x128x256 .f32 :=
  (Memref.whole cc0_stg3_0 : Memref sig .tc .vmem S2x128x256 .f32).view.readAt (Elt F) ewR0.toLoadRect a.ew
def ew1 (a : Args F) : Vec F S1x128x256 .f32 :=
  (Memref.whole cc0_stg3_0 : Memref sig .tc .vmem S2x128x256 .f32).view.readAt (Elt F) ewR1.toLoadRect a.ew

/-- The upper and the lower half of what the device sends: its two experts applied to the tokens routed to them. -/
def upper (c : Dev nD) (a : Args F) : Vec F S128x256 .bf16 := k0_pay10 (k0_pay9 (pos c) (k0_pay1 a.x a.rw) a.ix a.x (ew0 a) (ew1 a))
def lower (c : Dev nD) (a : Args F) : Vec F S128x256 .bf16 :=
  k0_pay14 (k0_pay7 (ew0 a)) (k0_pay8 (ew1 a)) (k0_pay12 (k0_pay4 (pos c) (k0_pay1 a.x a.rw) a.ix) (k0_pay6 a.x))
    (k0_pay13 (k0_pay5 (pos c) (k0_pay1 a.x a.rw) a.ix) (k0_pay6 a.x)) (constant S128x256 .f32 0x00000000#32)

/-- The send buffer's contents after both stores. -/
def sendC (c : Dev nD) (a : Args F) : (cc0_scratch0 : Ref sig .tc).ty.Contents (Elt F) :=
  (sM.access halfR1).write (Elt F) ((sM.access halfR0).write (Elt F) (fun _ => upper c a (fun b => ⟨0, by fin_cases b <;> decide⟩)) (upper c a) Finset.univ) (lower c a) Finset.univ

theorem half0_mem (x : S128x256.Idx) : halfR0.emb x ∈ halfR0.set := by
  have h := View.emb_mem_set (sM.access halfR0) x
  rwa [show (sM.access halfR0).set = halfR0.set from View.set_slice_whole _ _] at h
theorem half_emb {r : Rect S256x256} {i : S256x256.Idx} (h : i ∈ r.set) : ∃ x : r.shape.Idx, r.emb x = i := by
  rw [← show (sM.access r).set = r.set from View.set_slice_whole _ _] at h
  obtain ⟨x, -, e⟩ := Finset.mem_map.mp h
  exact ⟨x, e⟩

theorem half0_write (f : (cc0_scratch0 : Ref sig .tc).ty.Contents (Elt F)) (w : Vec F S128x256 .bf16) (x : S128x256.Idx) :
    (sM.access halfR0).write (Elt F) f w Finset.univ (halfR0.emb x) = w x := by
  have h := View.write_emb_of_mem (Val := Elt F) (v := sM.access halfR0) f w (Finset.mem_univ x)
  exact h
theorem half1_write (f : (cc0_scratch0 : Ref sig .tc).ty.Contents (Elt F)) (w : Vec F S128x256 .bf16) (x : S128x256.Idx) :
    (sM.access halfR1).write (Elt F) f w Finset.univ (halfR1.emb x) = w x := by
  have h := View.write_emb_of_mem (Val := Elt F) (v := sM.access halfR1) f w (Finset.mem_univ x)
  exact h

theorem half1_keeps (f : (cc0_scratch0 : Ref sig .tc).ty.Contents (Elt F)) (w : Vec F S128x256 .bf16) {i : S256x256.Idx} (h : i ∈ halfR0.set) :
    (sM.access halfR1).write (Elt F) f w Finset.univ i = f i :=
  View.write_of_not_mem (Val := Elt F) (v := sM.access halfR1) f w Finset.univ (fun hi => by
    have h1 : i ∈ halfR1.set := by
      have hs : (sM.access halfR1).setOn Finset.univ = halfR1.set := View.set_slice_whole _ _
      rwa [hs] at hi
    have := mem_halfR0.mp h; have := mem_halfR1.mp h1; omega)

theorem sendC_upper (c : Dev nD) (a : Args F) (x : S128x256.Idx) : sendC c a (halfR0.emb x) = upper c a x :=
  (half1_keeps _ _ (half0_mem x)).trans (half0_write _ _ x)
theorem sendC_lower (c : Dev nD) (a : Args F) (x : S128x256.Idx) : sendC c a (halfR1.emb x) = lower c a x := half1_write _ _ x

theorem upper_stored (c : Dev nD) (a : Args F) (f : (cc0_scratch0 : Ref sig .tc).ty.Contents (Elt F)) {i : S256x256.Idx} (h : i ∈ halfR0.set) :
    (sM.access halfR0).write (Elt F) f (upper c a) Finset.univ i = sendC c a i := by
  obtain ⟨x, rfl⟩ := half_emb h
  exact (half0_write f _ x).trans (sendC_upper c a x).symm
theorem lower_stored (c : Dev nD) (a : Args F) (f : (cc0_scratch0 : Ref sig .tc).ty.Contents (Elt F)) {i : S256x256.Idx} (h : i ∈ halfR1.set) :
    (sM.access halfR1).write (Elt F) f (lower c a) Finset.univ i = sendC c a i := by
  obtain ⟨x, rfl⟩ := half_emb h
  exact (half1_write f _ x).trans (sendC_lower c a x).symm

/-- The device `o` behind `d` round the mesh. -/
def behind (d : Dev nD) (o : Fin 16) : Dev nD := (d : Fin 16) - o

theorem behind_add : ∀ c o : Fin 16, behind (c + o) o = c := by unfold behind; decide

/-- The receive buffer of device `d` when all has landed: slot `o` holds what the device `o` behind it sends to `d`. -/
def recvC (A : Dev nD → Args F) (d : Dev nD) : (cc0_scratch1 : Ref sig .tc).ty.Contents (Elt F) :=
  fun j : S16x16x256.Idx => sendC (behind d (j 0)) (A (behind d (j 0))) ((rowsR d).emb (Fin.tail j))

/-- Slot `o` of device `d`'s receive buffer, once the block of the device `o` behind it is written there, holds that. -/
theorem landed (A : Dev nD → Args F) (c o : Fin 16) (fd : (cc0_scratch1 : Ref sig .tc).ty.Contents (Elt F)) {j : S16x16x256.Idx} (hj : j ∈ slotE o) :
    (slotM ![o.val, 0, 0] (inbSlot o)).view.write (Elt F) fd
      ((rowsM ![16 * (c + o).val, 0] (inbRows (c + o))).view.read (Elt F) (sendC c (A c))) Finset.univ j = recvC A (c + o) j := by
  rw [← slot_set] at hj
  obtain ⟨x, -, rfl⟩ := Finset.mem_map.mp hj
  refine (View.write_emb_of_mem (Val := Elt F) (v := (slotM ![o.val, 0, 0] (inbSlot o)).view) fd _ (Finset.mem_univ x)).trans ?_
  have he : (slotM ![o.val, 0, 0] (inbSlot o)).view.emb x = (slotR o).emb (Fin.cons (⟨0, Nat.one_pos⟩ : Fin 1) x) := by
    have h := Shape.reshapeEquiv_cons_one (d := ![16, 256]) squeezes_S1x16x256_S16x256.numel_eq x
    show (slotR o).emb (Shape.reshapeEquiv _ x) = _
    rw [h]
    rfl
  rw [he]
  unfold recvC
  have h0 : ((slotR o).emb (Fin.cons (⟨0, Nat.one_pos⟩ : Fin 1) x) 0 : Fin 16) = o :=
    Fin.ext (by rw [Rect.emb_apply]; show o.val + 1 * 0 = o.val; omega)
  have ht : (Fin.tail ((slotR o).emb (Fin.cons (⟨0, Nat.one_pos⟩ : Fin 1) x)) : S16x256.Idx) = x := by
    funext a
    refine Fin.ext ?_
    show ((slotR o).emb (Fin.cons (⟨0, Nat.one_pos⟩ : Fin 1) x) a.succ : ℕ) = _
    rw [Rect.emb_apply]
    fin_cases a <;> (show 0 + 1 * _ = _; rw [Nat.zero_add, Nat.one_mul]; rfl)
  rw [h0]
  have hd : behind (c + o) o = c := behind_add c o
  rw [hd]
  show sendC c (A c) ((rowsR (c + o)).emb x) = _
  rw [ht]

/-- The rows of the tokens the device's block of the result is for, as loaded; its own block; the fifteen landed blocks. -/
def xRows (c : Dev nD) (a : Args F) : Vec F S16x128 .f32 :=
  (Memref.whole cc0_stg0_0 : Memref sig .tc .vmem S256x128 .f32).view.readAt (Elt F)
    (Rect.unit (s := S256x128) (k0_off31 c) S16x128.size (k0_off31_inb c)).toLoadRect a.x
def ownRows (c : Dev nD) (a : Args F) : Vec F S16x256 .bf16 :=
  sM.view.readAt (Elt F) (Rect.unit (s := S256x256) (k0_off33 c) S16x256.size (k0_off33_inb c)).toLoadRect (sendC c a)
def arrived (A : Dev nD → Args F) (c : Dev nD) : Vec F S15x16x256 .bf16 := rM.view.readAt (Elt F) tailR.toLoadRect (recvC A c)

/-- The block of the result device `c` writes. -/
def outC (A : Dev nD → Args F) (c : Dev nD) : (cc0_stg5_0 : Ref sig .tc).ty.Contents (Elt F) :=
  k0_pay16 (k0_pay15 (xRows c (A c)) (A c).sw) (ownRows c (A c)) (arrived A c)

end Cert.Moe

end
-- ==== Proof.Softmax.lean ====
/-
# The router's probabilities over the extended reals

A token's score for each expert, the score's maximum, the exponentials and their quotient by their sum, written by
coordinates; and that this is what the kernel's payload computes. With finite tokens and finite router weights a
probability is a number that is not negative.
-/
module

public import proofs.«01_k».proof.Proof.Contents
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pipeline.Value

@[expose] public section

noncomputable section

namespace Cert.Moe

open Cert.KernelIdeal Cert.KernelIdeal.Gen

open Idealize.ShloMosaic
open Idealize.ShloMosaic.TcCoe
open Idealize.ShloMosaic.ValueIdx
open scoped BigOperators

/-- The row of `x` and the column of `w` multiplied. -/
def dotAt {M K N : ℕ} (x : (⟨2, ![M, K]⟩ : Shape).Idx → EReal) (w : (⟨2, ![K, N]⟩ : Shape).Idx → EReal) (i : Fin M) (e : Fin N) :
    EReal := ∑ k : Fin K, x (ix2 i k) * w (ix2 k e)

/-- The greatest score of token `i`, over the literal that the reduction starts from. -/
def topAt (x : S256x128.Idx → EReal) (w : S128x32.Idx → EReal) (i : Fin 256) : EReal :=
  (Finset.univ : Finset (Fin 32)).fold max (Ideal.ofBits .f32 0xFF800000#32) fun e => dotAt x w i e

def expAt (x : S256x128.Idx → EReal) (w : S128x32.Idx → EReal) (i : Fin 256) (e : Fin 32) : EReal :=
  Ideal.exp (dotAt x w i e - topAt x w i)

/-- The probability of expert `e` for token `i`. -/
def probAt (x : S256x128.Idx → EReal) (w : S128x32.Idx → EReal) (i : Fin 256) (e : Fin 32) : EReal :=
  Ideal.div (expAt x w i e) (∑ j : Fin 32, expAt x w i j)

/-- A column stretched over the row's entries. -/
theorem stretch {N M : ℕ} (hM : M ≠ 1) {α : Type} (v : (⟨1, ![M]⟩ : Shape).Idx → α)
    (h : (⟨1, ![M]⟩ : Shape).ShapeCasts ⟨2, ![M, 1]⟩) (hb : (⟨2, ![M, 1]⟩ : Shape).Broadcasts ⟨2, ![M, N]⟩)
    (i : Fin M) (e : Fin N) :
    broadcastTo ⟨2, ![M, N]⟩ (shapeCast ⟨2, ![M, 1]⟩ v h) hb (ix2 i e) = v (ix1 i) := by
  rw [broadcastTo_apply (k := ix2 i (0 : Fin 1)) (hk := by
    intro a
    match a with
    | ⟨0, _⟩ => show i.val = if M = 1 then 0 else i.val; rw [if_neg hM]
    | ⟨1, _⟩ => show (0 : ℕ) = if 1 = 1 then 0 else _; rfl)]
  exact shapeCast_apply v h (ix2 i 0) (ix1 i) (by
    show (Shape.rowMajor _ (ix1 i)).val = (Shape.rowMajor _ (ix2 i 0)).val
    rw [Shape.rowMajor_val_one, Shape.rowMajor_val_two]
    show i.val = i.val * 1 + 0
    omega)

theorem pay1_scores (x : FVec Ideal S256x128 .f32) (w : FVec Ideal S128x32 .f32) (i : Fin 256) (e : Fin 32) :
    (matmul dot_S256x128_S128x32_S256x32_1_0_0_1_n_n none x w (constant S256x32 .f32 0x00000000#32) : FVec Ideal S256x32 .f32)
      (ix2 i e) = dotAt x w i e := by
  have h := Ideal.matmul_plain_apply none x w (constant (F := Ideal) S256x32 .f32 0x00000000#32) i e
  refine h.trans ?_
  show Ideal.ofBits .f32 0x00000000#32 + _ = _
  rw [Ideal.ofBits_zero_f32, zero_add]
  rfl

theorem lift_row (i : Fin 256) (k : Fin 32) : reduces_S256x32_S256.lift (ix1 i) k = (ix2 i k : S256x32.Idx) := by
  funext a
  match a with | ⟨0, _⟩ => rfl | ⟨1, _⟩ => rfl

/-- The reductions of a row of 32, by coordinates. -/
theorem rowMax (v : FVec Ideal S256x32 .f32) (h : FKind.Formats .f32) (h' : 0xFF800000#32 = FKind.maximumf.neutral .f32 h) (i : Fin 256) :
    multiReduction .maximumf [1] S256 v 0xFF800000#32 reduces_S256x32_S256 h h' (ix1 i)
      = (Finset.univ : Finset (Fin 32)).fold max (Ideal.ofBits .f32 0xFF800000#32) fun k => v (ix2 i k) := by
  refine (Ideal.multiReduction_maximumf_single v _ reduces_S256x32_S256 h h' (ix1 i)).trans ?_
  refine Finset.fold_congr fun k _ => ?_
  exact congrArg v (lift_row i k)

theorem rowSum (v : FVec Ideal S256x32 .f32) (h : FKind.Formats .f32) (h' : 0x00000000#32 = FKind.add.neutral .f32 h) (i : Fin 256) :
    multiReduction .add [1] S256 v 0x00000000#32 reduces_S256x32_S256 h h' (ix1 i) = ∑ k : Fin 32, v (ix2 i k) := by
  refine (Ideal.multiReduction_add_single v _ reduces_S256x32_S256 h h' (ix1 i)).trans ?_
  exact Finset.sum_congr rfl fun k _ => congrArg v (lift_row i k)

/-- The quotient of the exponentials of the scores above their maximum by the exponentials' sum. -/
theorem probs_of (x : FVec Ideal S256x128 .f32) (w : FVec Ideal S128x32 .f32) (v : FVec Ideal S256x32 .f32)
    (hs : ∀ i e, v (ix2 i e) = dotAt x w i e) (h₁ : FKind.Formats .f32) (h₂ : 0xFF800000#32 = FKind.maximumf.neutral .f32 h₁)
    (h₃ : 0x00000000#32 = FKind.add.neutral .f32 h₁) (i : Fin 256) (e : Fin 32) :
    divf
      (exp (subf v (broadcastTo S256x32 (shapeCast S256x1
        (multiReduction .maximumf [1] S256 v 0xFF800000#32 reduces_S256x32_S256 h₁ h₂) shapeCasts_S256_S256x1) broadcasts_S256x1_S256x32)))
      (broadcastTo S256x32 (shapeCast S256x1 (multiReduction .add [1] S256
        (exp (subf v (broadcastTo S256x32 (shapeCast S256x1
          (multiReduction .maximumf [1] S256 v 0xFF800000#32 reduces_S256x32_S256 h₁ h₂) shapeCasts_S256_S256x1) broadcasts_S256x1_S256x32)))
        0x00000000#32 reduces_S256x32_S256 h₁ h₃) shapeCasts_S256_S256x1) broadcasts_S256x1_S256x32) (ix2 i e)
      = probAt x w i e := by
  have hm : ∀ i e, broadcastTo S256x32 (shapeCast S256x1 (multiReduction .maximumf [1] S256 v 0xFF800000#32
      reduces_S256x32_S256 h₁ h₂) shapeCasts_S256_S256x1) broadcasts_S256x1_S256x32 (ix2 i e) = topAt x w i := by
    intro i e
    refine (stretch (by decide) _ _ _ i e).trans ((rowMax v _ _ i).trans ?_)
    exact Finset.fold_congr fun k _ => hs i k
  have he : ∀ i e, exp (subf v (broadcastTo S256x32 (shapeCast S256x1 (multiReduction .maximumf [1] S256 v 0xFF800000#32
      reduces_S256x32_S256 h₁ h₂) shapeCasts_S256_S256x1) broadcasts_S256x1_S256x32)) (ix2 i e) = expAt x w i e := by
    intro i e
    show Ideal.exp (v (ix2 i e) - broadcastTo S256x32 _ _ (ix2 i e)) = _
    rw [hs, hm]; rfl
  refine congrArg₂ Ideal.div (he i e) ((stretch (by decide) _ _ _ i e).trans ((rowSum _ _ _ i).trans ?_))
  exact Finset.sum_congr rfl fun k _ => he i k

/-- The kernel's payload is the probability. -/
theorem pay1_at (x : FVec Ideal S256x128 .f32) (w : FVec Ideal S128x32 .f32) (i : Fin 256) (e : Fin 32) :
    k0_pay1 (F := Ideal) x w (ix2 i e) = probAt x w i e := by
  refine probs_of x w _ (fun i e => ?_) _ _ _ i e
  rw [shapeCast_self, shapeCast_self]; exact pay1_scores x w i e

end Cert.Moe

end
-- ==== Proof.Sent.lean ====
/-
# What a device sends, over the extended reals

The weight with which a device's expert counts for a token is the chosen probability where the token's index names the
expert, and zero elsewhere. A row of the send buffer is the sum, over the device's two experts, of the weighted token
multiplied with the expert's weights.
-/
module

public import proofs.«01_k».proof.Proof.Softmax

@[expose] public section

noncomputable section

namespace Cert.Moe

open Cert.KernelIdeal Cert.KernelIdeal.Gen

open Idealize.ShloMosaic
open Idealize.ShloMosaic.TcCoe
open Idealize.ShloMosaic.ValueIdx
open scoped BigOperators

/-- The probability the index picks, as the kernel adds it up. -/
def pickAt (x : S256x128.Idx → EReal) (w : S128x32.Idx → EReal) (ix : S256x1.Idx → BitVec 32) (i : Fin 256) : EReal :=
  ∑ j : Fin 32, if BitVec.ofNat 32 j.val = ix (ix2 i 0) then probAt x w i j else 0

/-- The weight of expert `e` for token `i`. -/
def gateAt (x : S256x128.Idx → EReal) (w : S128x32.Idx → EReal) (ix : S256x1.Idx → BitVec 32) (e : ℕ) (i : Fin 256) : EReal :=
  if ix (ix2 i 0) = BitVec.ofNat 32 e then pickAt x w ix i else 0

theorem pos_word (c : Dev nD) : pos c = BitVec.ofNat 32 c.val := by
  revert c; unfold pos; decide

theorem word_even (c : Dev nD) : Scalar.muli (pos c) 2#32 = BitVec.ofNat 32 (2 * c.val) := by
  rw [pos_word]; revert c; decide
theorem word_odd (c : Dev nD) : Scalar.addi (Scalar.muli (pos c) 2#32) 1#32 = BitVec.ofNat 32 (2 * c.val + 1) := by
  rw [pos_word]; revert c; decide

/-- A choice by a comparison of words is a choice by their equality. -/
theorem choose_eq {α : Type} (a b : BitVec 32) (p q : α) : Scalar.select (IntOp.cmpi .eq a b) p q = if a = b then p else q := by
  by_cases h : a = b
  · subst h; rw [if_pos rfl]; unfold IntOp.cmpi; simp [Scalar.select]
  · rw [if_neg h];
    have hb : (a == b) = false := beq_eq_false_iff_ne.mpr h
    unfold IntOp.cmpi; simp [Scalar.select, hb]

/-- A column of words stretched over the row's entries. -/
theorem stretchCol {N M : ℕ} (hM : M ≠ 1) {α : Type} (v : (⟨2, ![M, 1]⟩ : Shape).Idx → α)
    (hb : (⟨2, ![M, 1]⟩ : Shape).Broadcasts ⟨2, ![M, N]⟩) (i : Fin M) (e : Fin N) :
    broadcastTo ⟨2, ![M, N]⟩ v hb (ix2 i e) = v (ix2 i 0) := by
  rw [broadcastTo_apply (k := ix2 i (0 : Fin 1)) (hk := by
    intro a
    match a with
    | ⟨0, _⟩ => show i.val = if M = 1 then 0 else i.val; rw [if_neg hM]
    | ⟨1, _⟩ => show (0 : ℕ) = if 1 = 1 then 0 else _; rfl)]

/-- A vector written as a column. -/
theorem asCol {M : ℕ} {α : Type} (v : (⟨1, ![M]⟩ : Shape).Idx → α) (h : (⟨1, ![M]⟩ : Shape).ShapeCasts ⟨2, ![M, 1]⟩) (i : Fin M) :
    shapeCast ⟨2, ![M, 1]⟩ v h (ix2 i 0) = v (ix1 i) :=
  shapeCast_apply v h (ix2 i 0) (ix1 i) (by
    rw [Shape.rowMajor_val_one, Shape.rowMajor_val_two]
    show i.val = i.val * 1 + 0
    omega)

theorem pay2_eq (ix : IVec S256x1 32) : k0_pay2 (F := Ideal) ix = ix := shapeCast_self _ _

theorem pay3_at (x : FVec Ideal S256x128 .f32) (w : FVec Ideal S128x32 .f32) (ix : IVec S256x1 32) (i : Fin 256) :
    k0_pay3 (F := Ideal) (k0_pay1 x w) ix (ix2 i 0) = pickAt x w ix i := by
  unfold k0_pay3
  refine (asCol _ _ i).trans ((rowSum _ _ _ i).trans ?_)
  refine Finset.sum_congr rfl fun j _ => ?_
  show Scalar.select (IntOp.cmpi .eq (iota .tc S256x32 32 [1] iota_S256x32_d1_w32 (ix2 i j)) (broadcastTo S256x32 (k0_pay2 (F := Ideal) ix) broadcasts_S256x1_S256x32 (ix2 i j))) (k0_pay1 x w (ix2 i j)) (Ideal.ofBits .f32 0x00000000#32) = _
  rw [choose_eq, pay1_at, Ideal.ofBits_zero_f32, iota_single_apply, stretchCol (by decide), pay2_eq]

theorem pay4_at (c : Dev nD) (x : FVec Ideal S256x128 .f32) (w : FVec Ideal S128x32 .f32) (ix : IVec S256x1 32) (i : Fin 256) :
    k0_pay4 (F := Ideal) (pos c) (k0_pay1 x w) ix (ix2 i 0) = gateAt x w ix (2 * c.val) i := by
  show Scalar.select (IntOp.cmpi .eq (k0_pay2 (F := Ideal) ix (ix2 i 0)) (Scalar.muli (pos c) 2#32)) (k0_pay3 (F := Ideal) (k0_pay1 x w) ix (ix2 i 0)) (Ideal.ofBits .f32 0x00000000#32) = _
  rw [choose_eq, pay3_at, Ideal.ofBits_zero_f32, pay2_eq, word_even]; rfl

theorem pay5_at (c : Dev nD) (x : FVec Ideal S256x128 .f32) (w : FVec Ideal S128x32 .f32) (ix : IVec S256x1 32) (i : Fin 256) :
    k0_pay5 (F := Ideal) (pos c) (k0_pay1 x w) ix (ix2 i 0) = gateAt x w ix (2 * c.val + 1) i := by
  show Scalar.select (IntOp.cmpi .eq (k0_pay2 (F := Ideal) ix (ix2 i 0)) (Scalar.addi (Scalar.muli (pos c) 2#32) 1#32)) (k0_pay3 (F := Ideal) (k0_pay1 x w) ix (ix2 i 0)) (Ideal.ofBits .f32 0x00000000#32) = _
  rw [choose_eq, pay3_at, Ideal.ofBits_zero_f32, pay2_eq, word_odd]; rfl

/-- Token `i`, weighted by `g`, multiplied with column `o` of the weights `w`. -/
def weighted (g : EReal) (x : S256x128.Idx → EReal) (w : S128x256.Idx → EReal) (i : Fin 256) (o : Fin 256) : EReal :=
  ∑ k : Fin 128, (g * x (ix2 i k)) * w (ix2 k o)

/-- Half of the tokens, from token `n` on, weighted by a column and multiplied with an expert's weights. -/
theorem halfProduct (n : ℕ) (hn : n + 128 ≤ 256) (col : FVec Ideal S256x1 .f32) (x : FVec Ideal S256x128 .f32) (w : FVec Ideal S128x256 .bf16)
    (hc : S256x1.Slices ![n, 0] S128x1) (hx : S256x128.Slices ![n, 0] S128x128) (hφ : FTy.bits .bf16 < FTy.bits .f32) (r : Fin 128) (o : Fin 256) :
    (matmul dot_S128x128_S128x256_S128x256_1_0_0_1_n_n none
      (truncf .bf16 (mulf (broadcastTo S128x128 (extractStridedSlice S128x1 ![n, 0] col hc) broadcasts_S128x1_S128x128)
        (extractStridedSlice S128x128 ![n, 0] x hx)) hφ) w (constant S128x256 .f32 0x00000000#32) : FVec Ideal S128x256 .f32) (ix2 r o)
      = weighted (col (ix2 ⟨n + r.val, by omega⟩ 0)) x w ⟨n + r.val, by omega⟩ o := by
  refine (Ideal.matmul_plain_apply none _ w (constant (F := Ideal) S128x256 .f32 0x00000000#32) r o).trans ?_
  show Ideal.ofBits .f32 0x00000000#32 + _ = _
  rw [Ideal.ofBits_zero_f32, zero_add]
  refine Finset.sum_congr rfl fun k _ => ?_
  refine congrArg (· * w (ix2 k o)) ?_
  show broadcastTo S128x128 (extractStridedSlice S128x1 ![n, 0] col hc) broadcasts_S128x1_S128x128 (ix2 r k) * extractStridedSlice S128x128 ![n, 0] x hx (ix2 r k) = _
  rw [stretchCol (by decide)]
  congr 1
  · exact extractStridedSlice_apply _ col hc (ix2 r 0) _ (by
      intro a; match a with | ⟨0, _⟩ => rfl | ⟨1, _⟩ => rfl)
  · exact extractStridedSlice_apply _ x hx (ix2 r k) _ (by
      intro a
      match a with
      | ⟨0, _⟩ => rfl
      | ⟨1, _⟩ => show k.val = 0 + k.val; omega)

/-- The weights of one of the device's experts. -/
def expertAt (ew : S2x128x256.Idx → EReal) (b : Fin 2) : S128x256.Idx → EReal := fun j => ew (ix3 b (j 0) (j 1))

theorem pay7_eq (a : Args Ideal) : k0_pay7 (ew0 a) = expertAt a.ew 0 := by
  funext j
  show shapeCast S128x256 (ew0 a) shapeCasts_S1x128x256_S128x256 j = _
  refine (shapeCast_dropUnit_apply ![128, 256] (ew0 a) shapeCasts_S1x128x256_S128x256 j).trans ?_
  show a.ew (ewR0.emb (Fin.cons ⟨0, Nat.one_pos⟩ j)) = _
  refine congrArg a.ew (funext fun d => Fin.ext ?_)
  rw [Rect.emb_apply]
  match d with
  | ⟨0, _⟩ => rfl
  | ⟨1, _⟩ => show 0 + 1 * (j 0).val = (j 0).val; omega
  | ⟨2, _⟩ => show 0 + 1 * (j 1).val = (j 1).val; omega

theorem pay8_eq (a : Args Ideal) : k0_pay8 (ew1 a) = expertAt a.ew 1 := by
  funext j
  show shapeCast S128x256 (ew1 a) shapeCasts_S1x128x256_S128x256 j = _
  refine (shapeCast_dropUnit_apply ![128, 256] (ew1 a) shapeCasts_S1x128x256_S128x256 j).trans ?_
  show a.ew (ewR1.emb (Fin.cons ⟨0, Nat.one_pos⟩ j)) = _
  refine congrArg a.ew (funext fun d => Fin.ext ?_)
  rw [Rect.emb_apply]
  match d with
  | ⟨0, _⟩ => rfl
  | ⟨1, _⟩ => show 0 + 1 * (j 0).val = (j 0).val; omega
  | ⟨2, _⟩ => show 0 + 1 * (j 1).val = (j 1).val; omega

/-- Device `c`'s part of row `i` of the experts' sum. -/
def partAt (c : Dev nD) (a : Args Ideal) (i : Fin 256) (o : Fin 256) : EReal :=
  weighted (gateAt a.x a.rw a.ix (2 * c.val) i) a.x (expertAt a.ew 0) i o
    + weighted (gateAt a.x a.rw a.ix (2 * c.val + 1) i) a.x (expertAt a.ew 1) i o

theorem upper_at (c : Dev nD) (a : Args Ideal) (r : Fin 128) (o : Fin 256) :
    upper c a (ix2 r o) = partAt c a ⟨r.val, by omega⟩ o := by
  unfold upper k0_pay10
  rw [shapeCast_self]
  have h0 := halfProduct 0 (by omega) (k0_pay4 (pos c) (k0_pay1 a.x a.rw) a.ix) (k0_pay6 a.x) (k0_pay7 (ew0 a))
    slices_S256x1_o0_0_S128x1 slices_S256x128_o0_0_S128x128 bitsLt_bf16_f32 r o
  have h1 := halfProduct 0 (by omega) (k0_pay5 (pos c) (k0_pay1 a.x a.rw) a.ix) (k0_pay6 a.x) (k0_pay8 (ew1 a))
    slices_S256x1_o0_0_S128x1 slices_S256x128_o0_0_S128x128 bitsLt_bf16_f32 r o
  refine (congrArg₂ (· + ·) h0 h1).trans ?_
  have hx : k0_pay6 (F := Ideal) a.x = a.x := shapeCast_self _ _
  have hi : (⟨0 + r.val, by omega⟩ : Fin 256) = ⟨r.val, by omega⟩ := Fin.ext (Nat.zero_add _)
  rw [hi, hx, pay7_eq, pay8_eq]
  unfold partAt
  rw [← pay4_at, ← pay5_at]

theorem lower_at (c : Dev nD) (a : Args Ideal) (r : Fin 128) (o : Fin 256) :
    lower c a (ix2 r o) = partAt c a ⟨128 + r.val, by omega⟩ o := by
  unfold lower k0_pay14
  rw [shapeCast_self]
  have h0 := halfProduct 128 (by omega) (k0_pay4 (pos c) (k0_pay1 a.x a.rw) a.ix) (k0_pay6 a.x) (k0_pay7 (ew0 a))
    slices_S256x1_o128_0_S128x1 slices_S256x128_o128_0_S128x128 bitsLt_bf16_f32 r o
  have h1 := halfProduct 128 (by omega) (k0_pay5 (pos c) (k0_pay1 a.x a.rw) a.ix) (k0_pay6 a.x) (k0_pay8 (ew1 a))
    slices_S256x1_o128_0_S128x1 slices_S256x128_o128_0_S128x128 bitsLt_bf16_f32 r o
  refine (congrArg₂ (· + ·) h0 h1).trans ?_
  have hx : k0_pay6 (F := Ideal) a.x = a.x := shapeCast_self _ _
  rw [hx, pay7_eq, pay8_eq]
  unfold partAt
  rw [← pay4_at, ← pay5_at]

/-- The send buffer, row by row. -/
theorem sendC_at (c : Dev nD) (a : Args Ideal) (i : Fin 256) (o : Fin 256) : sendC c a (ix2 i o) = partAt c a i o := by
  by_cases h : i.val < 128
  · have e : (ix2 i o : S256x256.Idx) = halfR0.emb (ix2 (⟨i.val, h⟩ : Fin 128) o) := by
      funext d; refine Fin.ext ?_
      rw [Rect.emb_apply]
      match d with
      | ⟨0, _⟩ => show i.val = 0 + 1 * i.val; omega
      | ⟨1, _⟩ => show o.val = 0 + 1 * o.val; omega
    rw [e, sendC_upper, upper_at]
  · have e : (ix2 i o : S256x256.Idx) = halfR1.emb (ix2 (⟨i.val - 128, by omega⟩ : Fin 128) o) := by
      funext d; refine Fin.ext ?_
      rw [Rect.emb_apply]
      match d with
      | ⟨0, _⟩ => show i.val = 128 + 1 * (i.val - 128); omega
      | ⟨1, _⟩ => show o.val = 0 + 1 * o.val; omega
    rw [e, sendC_lower, lower_at]
    congr 1
    exact Fin.ext (by show 128 + (i.val - 128) = i.val; omega)

end Cert.Moe

end
-- ==== Proof.Result.lean ====
/-
# The block of the result a device writes, over the extended reals

Row by row: the shared expert's product, plus the parts that all sixteen devices computed for the row, in whatever order
they came.
-/
module

public import proofs.«01_k».proof.Proof.Sent

@[expose] public section

noncomputable section

namespace Cert.Moe

open Cert.KernelIdeal Cert.KernelIdeal.Gen

open Idealize.ShloMosaic
open Idealize.ShloMosaic.TcCoe
open Idealize.ShloMosaic.ValueIdx
open scoped BigOperators

/-- The token whose result is row `r` of device `c`'s block. -/
def tok (c : Dev nD) (r : Fin 16) : Fin 256 :=
  ⟨16 * c.val + r.val, by have h : c.val < 16 := c.isLt; have := r.isLt; omega⟩

theorem xRows_at (c : Dev nD) (a : Args Ideal) (r : Fin 16) (k : Fin 128) : xRows c a (ix2 r k) = a.x (ix2 (tok c r) k) := by
  show a.x ((Rect.unit (s := S256x128) (k0_off31 c) S16x128.size (k0_off31_inb c)).emb (ix2 r k)) = _
  refine congrArg a.x (funext fun d => Fin.ext ?_)
  rw [Rect.emb_apply]
  match d with
  | ⟨0, _⟩ =>
    show k0_off31 c 0 + 1 * r.val = 16 * c.val + r.val
    rw [k0_off31_eq c]; show 16 * c.val + 1 * r.val = _; omega
  | ⟨1, _⟩ =>
    show k0_off31 c 1 + 1 * k.val = k.val
    rw [k0_off31_eq c]; show 0 + 1 * k.val = _; omega

theorem ownRows_at (c : Dev nD) (a : Args Ideal) (r : Fin 16) (o : Fin 256) : ownRows c a (ix2 r o) = partAt c a (tok c r) o := by
  rw [← sendC_at]
  show sendC c a ((Rect.unit (s := S256x256) (k0_off33 c) S16x256.size (k0_off33_inb c)).emb (ix2 r o)) = _
  refine congrArg (sendC c a) (funext fun d => Fin.ext ?_)
  rw [Rect.emb_apply]
  match d with
  | ⟨0, _⟩ =>
    show k0_off33 c 0 + 1 * r.val = 16 * c.val + r.val
    rw [k0_off33_eq c]; show 16 * c.val + 1 * r.val = _; omega
  | ⟨1, _⟩ =>
    show k0_off33 c 1 + 1 * o.val = o.val
    rw [k0_off33_eq c]; show 0 + 1 * o.val = _; omega

theorem arrived_at (A : Dev nD → Args Ideal) (c : Dev nD) (t : Fin 15) (r : Fin 16) (o : Fin 256) :
    arrived A c (ix3 t r o) = partAt (behind c t.succ) (A (behind c t.succ)) (tok c r) o := by
  have h : arrived A c (ix3 t r o) = recvC A c (ix3 t.succ r o) := by
    show recvC A c (tailR.emb (ix3 t r o)) = _
    refine congrArg (recvC A c) (funext fun d => Fin.ext ?_)
    rw [Rect.emb_apply]
    match d with
    | ⟨0, _⟩ => show 1 + 1 * t.val = t.val + 1; omega
    | ⟨1, _⟩ => show 0 + 1 * r.val = r.val; omega
    | ⟨2, _⟩ => show 0 + 1 * o.val = o.val; omega
  rw [h, ← sendC_at]
  show sendC (behind c t.succ) (A (behind c t.succ)) ((rowsR c).emb _) = _
  refine congrArg (sendC _ _) (funext fun d => Fin.ext ?_)
  refine (Rect.emb_apply _ _ _).trans ?_
  match d with
  | ⟨0, _⟩ => show 16 * c.val + 1 * r.val = 16 * c.val + r.val; omega
  | ⟨1, _⟩ => show 0 + 1 * o.val = o.val; omega

theorem shared_at (c : Dev nD) (a : Args Ideal) (r : Fin 16) (o : Fin 256) :
    k0_pay15 (xRows c a) a.sw (ix2 r o) = dotAt (M := 256) a.x a.sw (tok c r) o := by
  have h := Ideal.matmul_plain_apply none (φ₁ := .bf16) (φ₂ := .bf16) (xRows c a) a.sw (constant (F := Ideal) S16x256 .f32 0x00000000#32) r o
  have hx : shapeCast S16x128 (xRows c a) shapeCasts_S16x128_S16x128 = xRows c a := shapeCast_self _ _
  have hw : shapeCast S128x256 a.sw shapeCasts_S128x256_S128x256 = a.sw := shapeCast_self _ _
  unfold k0_pay15
  rw [hx, hw]
  refine h.trans ?_
  show Ideal.ofBits .f32 0x00000000#32 + _ = _
  rw [Ideal.ofBits_zero_f32, zero_add]
  exact Finset.sum_congr rfl fun k _ => congrArg (· * a.sw (ix2 k o)) (xRows_at c a r k)

/-- Going round the mesh backwards from any device meets every device once. -/
def round (c : Dev nD) : Fin 16 ≃ Dev nD := Equiv.subLeft (c : Fin 16)

theorem outC_at (A : Dev nD → Args Ideal) (c : Dev nD) (r : Fin 16) (o : Fin 256) :
    outC A c (ix2 r o) = dotAt (M := 256) (A c).x (A c).sw (tok c r) o + ∑ d : Dev nD, partAt d (A d) (tok c r) o := by
  have hs : (multiReduction .add [0] S16x256 (arrived A c : FVec Ideal S15x16x256 .f32) 0x00000000#32 reduces_S15x16x256_S16x256 (.inl rfl) rfl : FVec Ideal S16x256 .f32) (ix2 r o)
      = ∑ t : Fin 15, partAt (behind c t.succ) (A (behind c t.succ)) (tok c r) o := by
    refine (Ideal.multiReduction_add_single _ _ reduces_S15x16x256_S16x256 (.inl rfl) rfl (ix2 r o)).trans ?_
    refine Finset.sum_congr rfl fun t _ => ?_
    refine Eq.trans (congrArg (arrived A c) (funext fun d => ?_)) (arrived_at A c t r o)
    match d with | ⟨0, _⟩ => rfl | ⟨1, _⟩ => rfl | ⟨2, _⟩ => rfl
  have he : outC A c (ix2 r o) = k0_pay15 (xRows c (A c)) (A c).sw (ix2 r o) + ownRows c (A c) (ix2 r o)
      + (multiReduction .add [0] S16x256 (arrived A c : FVec Ideal S15x16x256 .f32) 0x00000000#32 reduces_S15x16x256_S16x256 (.inl rfl) rfl : FVec Ideal S16x256 .f32) (ix2 r o) := rfl
  rw [he, hs, shared_at, ownRows_at, add_assoc]
  refine congrArg _ ?_
  have h0 : round c 0 = c := by show (c : Fin 16) - 0 = c; exact sub_zero _
  have hr := (Equiv.sum_comp (round c) fun d => partAt d (A d) (tok c r) o).symm.trans
    (Fin.sum_univ_succ fun k : Fin 16 => partAt (round c k) (A (round c k)) (tok c r) o)
  rw [h0] at hr
  exact hr.symm

end Cert.Moe

end
-- ==== Proof.Numbers.lean ====
/-
# Numbers among the extended reals

With finite tokens and finite router weights the scores are numbers, so is their maximum, and a probability is a number
that is not negative. Such a factor goes into a sum of products, whatever the summands are.
-/
module

public import proofs.«01_k».proof.Proof.Result

@[expose] public section

noncomputable section

namespace Cert.Moe

open Cert.KernelIdeal Cert.KernelIdeal.Gen

open Idealize.ShloMosaic
open Idealize.ShloMosaic.TcCoe
open Idealize.ShloMosaic.ValueIdx
open scoped BigOperators

/-- `v` is a number. -/
def IsNum (v : EReal) : Prop := ∃ r : ℝ, v = (r : EReal)

theorem IsNum.mul {a b : EReal} (ha : IsNum a) (hb : IsNum b) : IsNum (a * b) := by
  obtain ⟨r, rfl⟩ := ha; obtain ⟨s, rfl⟩ := hb
  exact ⟨r * s, (EReal.coe_mul r s).symm⟩
theorem IsNum.add {a b : EReal} (ha : IsNum a) (hb : IsNum b) : IsNum (a + b) := by
  obtain ⟨r, rfl⟩ := ha; obtain ⟨s, rfl⟩ := hb
  exact ⟨r + s, (EReal.coe_add r s).symm⟩
theorem IsNum.sum {ι : Type} (s : Finset ι) {f : ι → EReal} (h : ∀ i, IsNum (f i)) : IsNum (∑ i ∈ s, f i) := by
  classical
  induction s using Finset.induction_on with
  | empty => exact ⟨0, by simp⟩
  | insert a s ha ih => rw [Finset.sum_insert ha]; exact (h a).add ih

theorem isNum_of_abs {v : EReal} (h : max v (-v) < ⊤) : IsNum v := by
  induction v with
  | bot => exact absurd h (by simp)
  | top => exact absurd h (by simp)
  | coe r => exact ⟨r, rfl⟩

theorem dotAt_num {M K N : ℕ} {x : (⟨2, ![M, K]⟩ : Shape).Idx → EReal} {w : (⟨2, ![K, N]⟩ : Shape).Idx → EReal}
    (hx : ∀ j, IsNum (x j)) (hw : ∀ j, IsNum (w j)) (i : Fin M) (e : Fin N) : IsNum (dotAt x w i e) :=
  IsNum.sum _ fun k => (hx _).mul (hw _)

/-- A maximum of numbers over minus infinity is minus infinity or a number; over at least one number, a number. -/
theorem fold_max_num {n : ℕ} {f : Fin (n + 1) → EReal} (h : ∀ i, IsNum (f i)) :
    IsNum ((Finset.univ : Finset (Fin (n + 1))).fold max ⊥ f) := by
  have hle : f 0 ≤ (Finset.univ : Finset (Fin (n + 1))).fold max ⊥ f :=
    (Finset.le_fold_max (f 0)).mpr (Or.inr ⟨0, Finset.mem_univ _, le_refl _⟩)
  have hlt : (Finset.univ : Finset (Fin (n + 1))).fold max ⊥ f < ⊤ :=
    (Finset.fold_max_lt ⊤).mpr ⟨bot_lt_top, fun i _ => by obtain ⟨r, hr⟩ := h i; rw [hr]; exact EReal.coe_lt_top r⟩
  obtain ⟨r, hr⟩ := h 0
  rw [hr] at hle
  generalize (Finset.univ : Finset (Fin (n + 1))).fold max ⊥ f = v at *
  induction v with
  | bot => exact absurd hle (by simp)
  | top => exact absurd hlt (lt_irrefl _)
  | coe s => exact ⟨s, rfl⟩

theorem minus_infinity : Ideal.ofBits .f32 0xFF800000#32 = ⊥ := by simp [Ideal.ofBits, Ideal.ieee]
theorem plus_infinity : Ideal.ofBits .f32 0x7F800000#32 = ⊤ := by simp [Ideal.ofBits, Ideal.ieee]

/-- The exponential of a number is a positive number. -/
theorem expAt_pos {x : S256x128.Idx → EReal} {w : S128x32.Idx → EReal} (hx : ∀ j, IsNum (x j)) (hw : ∀ j, IsNum (w j))
    (i : Fin 256) (e : Fin 32) : ∃ r : ℝ, 0 < r ∧ expAt x w i e = (r : EReal) := by
  obtain ⟨s, hs⟩ := dotAt_num hx hw i e
  obtain ⟨t, ht⟩ : IsNum (topAt x w i) := by
    unfold topAt; rw [minus_infinity]; exact fold_max_num fun k => dotAt_num hx hw i k
  refine ⟨Real.exp (s - t), Real.exp_pos _, ?_⟩
  unfold expAt
  rw [hs, ht, ← EReal.coe_sub, Ideal.exp_coe]

/-- A probability is a number that is not negative. -/
theorem probAt_num {x : S256x128.Idx → EReal} {w : S128x32.Idx → EReal} (hx : ∀ j, IsNum (x j)) (hw : ∀ j, IsNum (w j))
    (i : Fin 256) (e : Fin 32) : ∃ r : ℝ, 0 ≤ r ∧ probAt x w i e = (r : EReal) := by
  choose f hf he using fun k => expAt_pos hx hw i k
  have hsum : ∑ k : Fin 32, expAt x w i k = ((∑ k : Fin 32, f k : ℝ) : EReal) := by
    rw [Finset.sum_congr rfl fun k _ => he k]
    exact (map_sum (⟨⟨Real.toEReal, rfl⟩, EReal.coe_add⟩ : ℝ →+ EReal) f Finset.univ).symm
  have hpos : 0 < ∑ k : Fin 32, f k := Finset.sum_pos (fun k _ => hf k) ⟨0, Finset.mem_univ _⟩
  refine ⟨f e * (∑ k : Fin 32, f k)⁻¹, mul_nonneg (hf e).le (inv_nonneg.mpr hpos.le), ?_⟩
  unfold probAt Ideal.div
  rw [hsum, he, if_neg (by exact_mod_cast hpos.ne'), ← EReal.coe_inv, ← EReal.coe_mul]

/-- A number that is not negative goes into a sum. -/
theorem mul_sum_num {ι : Type} (s : Finset ι) {r : ℝ} (hr : 0 ≤ r) (f : ι → EReal) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (by exact_mod_cast hr) (EReal.coe_ne_top r), ih]

/-- Weighting the token or weighting its product is the same. -/
theorem weighted_num {g : EReal} (hg : ∃ r : ℝ, 0 ≤ r ∧ g = (r : EReal)) (x : S256x128.Idx → EReal) (w : S128x256.Idx → EReal)
    (i : Fin 256) (o : Fin 256) : weighted g x w i o = g * dotAt (M := 256) x w i o := by
  obtain ⟨r, hr, rfl⟩ := hg
  unfold weighted dotAt
  rw [mul_sum_num _ hr]
  exact Finset.sum_congr rfl fun k _ => mul_assoc _ _ _

/-- A weight of zero leaves nothing, whatever the token and the expert's weights are. -/
theorem weighted_zero (x : S256x128.Idx → EReal) (w : S128x256.Idx → EReal) (i : Fin 256) (o : Fin 256) : weighted 0 x w i o = 0 := by
  unfold weighted
  exact Finset.sum_eq_zero fun k _ => by rw [zero_mul, zero_mul]

end Cert.Moe

end
-- ==== Proof.RefGather.lean ====
/-
# The reference's two gathers

The probability taken along a token's row and the expert's weights taken by the token's index, at an index that is read
as a signed word and clamped into the 32 experts.
-/
module

public import proofs.«01_k».proof.Proof.Numbers
public import proofs.«01_k».proof.Proof.Gen.ReferenceIdeal
public import proofs.«01_k».proof.Proof.Gen.ReferenceIdeal.Run

@[expose] public section

noncomputable section

namespace Cert.Moe

open Cert.ReferenceIdeal Cert.ReferenceIdeal.Gen

open Idealize.ShloMosaic
open Idealize.ShloMosaic.TcCoe
open Idealize.ShloMosaic.ValueIdx
open scoped BigOperators

/-- The expert that the word names once it is clamped. -/
def clamped (n : BitVec 32) : Fin 32 := ⟨min n.toInt.toNat 31, by omega⟩

theorem takeProb {α : Type} (x : S256x32.Idx → α) (jx : IVec S256x1x1 32) (i : Fin 256) :
    Host.gather gather_S256x32_S256x1x1_S256x1_n_1_0_0_1_2_11 x jx (ix2 i 0) = x (ix2 i (clamped (jx (ix3 i 0 0)))) := by
  unfold Host.gather
  refine congrArg x (funext fun a => Fin.ext ?_)
  have hoff : ∀ a, gather_S256x32_S256x1x1_S256x1_n_1_0_0_1_2_11.offCoord (ix2 i 0) a = 0 := by
    intro a
    exact dif_neg (by revert a; decide)
  have hb0 : gather_S256x32_S256x1x1_S256x1_n_1_0_0_1_2_11.batchCoord (ix2 i 0) 0 = i.val :=
    dif_pos (show (0 : Fin 2) ∈ ([0] : List (Fin 2)) by decide)
  have hb1 : gather_S256x32_S256x1x1_S256x1_n_1_0_0_1_2_11.batchCoord (ix2 i 0) 1 = 0 :=
    dif_neg (show ¬ (1 : Fin 2) ∈ ([0] : List (Fin 2)) by decide)
  have hs0 : gather_S256x32_S256x1x1_S256x1_n_1_0_0_1_2_11.start (ix2 i 0) jx 0 = 0 :=
    dif_neg (show ¬ (0 : Fin 2) ∈ ([1] : List (Fin 2)) by decide)
  have hsi : gather_S256x32_S256x1x1_S256x1_n_1_0_0_1_2_11.siIdx (ix2 i 0) ⟨List.idxOf (1 : Fin 2) gather_S256x32_S256x1x1_S256x1_n_1_0_0_1_2_11.startIndexMap,
      List.idxOf_lt_length_iff.2 (List.mem_singleton.mpr rfl)⟩ = (ix3 i 0 0 : S256x1x1.Idx) := by
    funext b; refine Fin.ext ?_
    match b with
    | ⟨0, _⟩ => rfl
    | ⟨1, _⟩ => rfl
    | ⟨2, _⟩ => rfl
  have hs1 : gather_S256x32_S256x1x1_S256x1_n_1_0_0_1_2_11.start (ix2 i 0) jx 1 = min (jx (ix3 i 0 0)).toInt.toNat 31 :=
    (dif_pos (show (1 : Fin 2) ∈ ([1] : List (Fin 2)) by decide)).trans
      (congrArg (fun b => min (jx b).toInt.toNat 31) hsi)
  match a with
  | ⟨0, _⟩ =>
    show gather_S256x32_S256x1x1_S256x1_n_1_0_0_1_2_11.start (ix2 i 0) jx 0 + gather_S256x32_S256x1x1_S256x1_n_1_0_0_1_2_11.batchCoord (ix2 i 0) 0 + gather_S256x32_S256x1x1_S256x1_n_1_0_0_1_2_11.offCoord (ix2 i 0) 0 = i.val
    rw [hs0, hb0, hoff]; omega
  | ⟨1, _⟩ =>
    show gather_S256x32_S256x1x1_S256x1_n_1_0_0_1_2_11.start (ix2 i 0) jx 1 + gather_S256x32_S256x1x1_S256x1_n_1_0_0_1_2_11.batchCoord (ix2 i 0) 1 + gather_S256x32_S256x1x1_S256x1_n_1_0_0_1_2_11.offCoord (ix2 i 0) 1 = min (jx (ix3 i 0 0)).toInt.toNat 31
    rw [hs1, hb1, hoff]; omega

theorem takeExpert {α : Type} (x : S32x128x256.Idx → α) (jx : IVec S256x1 32) (i : Fin 256) (k : Fin 128) (o : Fin 256) :
    Host.gather gather_S32x128x256_S256x1_S256x128x256_12_0_n_n_0_1_1128256 x jx (ix3 i k o) = x (ix3 (clamped (jx (ix2 i 0))) k o) := by
  unfold Host.gather
  refine congrArg x (funext fun a => Fin.ext ?_)
  show gather_S32x128x256_S256x1_S256x128x256_12_0_n_n_0_1_1128256.start (ix3 i k o) jx a
    + gather_S32x128x256_S256x1_S256x128x256_12_0_n_n_0_1_1128256.batchCoord (ix3 i k o) a
    + gather_S32x128x256_S256x1_S256x128x256_12_0_n_n_0_1_1128256.offCoord (ix3 i k o) a = _
  rw [GatherDims.batchCoord_eq_zero _ _ _ List.not_mem_nil]
  match a with
  | ⟨0, _⟩ =>
    have hsi : gather_S32x128x256_S256x1_S256x128x256_12_0_n_n_0_1_1128256.siIdx (ix3 i k o) ⟨List.idxOf (0 : Fin 3) gather_S32x128x256_S256x1_S256x128x256_12_0_n_n_0_1_1128256.startIndexMap,
        List.idxOf_lt_length_iff.2 (List.mem_singleton.mpr rfl)⟩ = (ix2 i 0 : S256x1.Idx) := by
      funext b; refine Fin.ext ?_
      match b with
      | ⟨0, _⟩ => rfl
      | ⟨1, _⟩ => rfl
    have hst : gather_S32x128x256_S256x1_S256x128x256_12_0_n_n_0_1_1128256.start (ix3 i k o) jx 0 = min (jx (ix2 i 0)).toInt.toNat 31 :=
      (dif_pos (show (0 : Fin 3) ∈ ([0] : List (Fin 3)) by decide)).trans
        (congrArg (fun b => min (jx b).toInt.toNat 31) hsi)
    have hoff : gather_S32x128x256_S256x1_S256x128x256_12_0_n_n_0_1_1128256.offCoord (ix3 i k o) 0 = 0 :=
      dif_neg (show ¬ (0 : Fin 3) ∈ gather_S32x128x256_S256x1_S256x128x256_12_0_n_n_0_1_1128256.sKept by decide)
    show gather_S32x128x256_S256x1_S256x128x256_12_0_n_n_0_1_1128256.start (ix3 i k o) jx 0 + 0 + gather_S32x128x256_S256x1_S256x128x256_12_0_n_n_0_1_1128256.offCoord (ix3 i k o) 0 = min (jx (ix2 i 0)).toInt.toNat 31
    rw [hst, hoff]; omega
  | ⟨1, _⟩ =>
    have hst : gather_S32x128x256_S256x1_S256x128x256_12_0_n_n_0_1_1128256.start (ix3 i k o) jx 1 = 0 :=
      dif_neg (show ¬ (1 : Fin 3) ∈ ([0] : List (Fin 3)) by decide)
    have hoff : gather_S32x128x256_S256x1_S256x128x256_12_0_n_n_0_1_1128256.offCoord (ix3 i k o) 1 = k.val :=
      dif_pos (show (1 : Fin 3) ∈ gather_S32x128x256_S256x1_S256x128x256_12_0_n_n_0_1_1128256.sKept by decide)
    show gather_S32x128x256_S256x1_S256x128x256_12_0_n_n_0_1_1128256.start (ix3 i k o) jx 1 + 0 + gather_S32x128x256_S256x1_S256x128x256_12_0_n_n_0_1_1128256.offCoord (ix3 i k o) 1 = k.val
    rw [hst, hoff]; omega
  | ⟨2, _⟩ =>
    have hst : gather_S32x128x256_S256x1_S256x128x256_12_0_n_n_0_1_1128256.start (ix3 i k o) jx 2 = 0 :=
      dif_neg (show ¬ (2 : Fin 3) ∈ ([0] : List (Fin 3)) by decide)
    have hoff : gather_S32x128x256_S256x1_S256x128x256_12_0_n_n_0_1_1128256.offCoord (ix3 i k o) 2 = o.val :=
      dif_pos (show (2 : Fin 3) ∈ gather_S32x128x256_S256x1_S256x128x256_12_0_n_n_0_1_1128256.sKept by decide)
    show gather_S32x128x256_S256x1_S256x128x256_12_0_n_n_0_1_1128256.start (ix3 i k o) jx 2 + 0 + gather_S32x128x256_S256x1_S256x128x256_12_0_n_n_0_1_1128256.offCoord (ix3 i k o) 2 = o.val
    rw [hst, hoff]; omega

end Cert.Moe

end
-- ==== Proof.RefProbs.lean ====
/-
# The reference's probabilities

The reference's softmax of a token's scores, read at a token and an expert: it is the probability that the kernel
computes.
-/
module

public import proofs.«01_k».proof.Proof.RefGather
public import Idealize.ShloMosaic.Lib.IdealHost
public import Idealize.ShloMosaic.Lib.StackMember

@[expose] public section

noncomputable section

namespace Cert.Moe

open Cert.ReferenceIdeal Cert.ReferenceIdeal.Gen

open Idealize.ShloMosaic
open Idealize.ShloMosaic.TcCoe
open Idealize.ShloMosaic.ValueIdx
open scoped BigOperators

/-- The reference's plain products are the sums over the contracted axis. -/
theorem ref_scores (x : FVec Ideal S256x128 .f32) (w : FVec Ideal S128x32 .f32) (i : Fin 256) (e : Fin 32) :
    (Host.dotGeneral dot_S256x128_S128x32_S256x32_1_0_0_1_n_n none x w : FVec Ideal S256x32 .f32) (ix2 i e) = dotAt x w i e :=
  StackMember.dotGeneral_plain_apply (m := 256) (n := 32) (k := 128) none x w i e

theorem ref_shared (x : FVec Ideal S256x128 .f32) (w : FVec Ideal S128x256 .f32) (i : Fin 256) (o : Fin 256) :
    (Host.dotGeneral dot_S256x128_S128x256_S256x256_1_0_0_1_n_n none x w : FVec Ideal S256x256 .f32) (ix2 i o) = dotAt x w i o :=
  StackMember.dotGeneral_plain_apply (m := 256) (n := 256) (k := 128) none x w i o

/-- A row of 32 summed away leaves one entry per token. -/
theorem ref_reduces : S256x32.Reduces [1] S256 := by decide

theorem ref_lift (i : Fin 256) (k : Fin 32) : ref_reduces.lift (ix1 i) k = (ix2 i k : S256x32.Idx) := by
  funext a
  match a with | ⟨0, _⟩ => rfl | ⟨1, _⟩ => rfl

theorem ref_max (v : FVec Ideal S256x32 .f32) (i : Fin 256) :
    (Host.reduce FloatOps.maximumf v (constant (F := Ideal) S_ .f32 0xFF800000#32) reducesTo_S256x32_S256_d1 h_S_ : FVec Ideal S256 .f32) (ix1 i)
      = (Finset.univ : Finset (Fin 32)).fold max (Ideal.ofBits .f32 0xFF800000#32) fun k => v (ix2 i k) := by
  refine (Host.reduce_eq_fold_single (max : EReal → EReal → EReal) v _ reducesTo_S256x32_S256_d1 ref_reduces h_S_ (ix1 i)).trans ?_
  refine Finset.fold_congr fun k _ => ?_
  exact congrArg v (ref_lift i k)

theorem ref_sum (v : FVec Ideal S256x32 .f32) (i : Fin 256) :
    (Host.reduceAdd v (constant (F := Ideal) S_ .f32 0x00000000#32) reducesTo_S256x32_S256_d1 h_S_ : FVec Ideal S256 .f32) (ix1 i)
      = ∑ k : Fin 32, v (ix2 i k) := by
  refine (Ideal.hostReduceAdd_single reducesTo_S256x32_S256_d1 ref_reduces v _ (ix1 i)).trans ?_
  show Ideal.ofBits .f32 0x00000000#32 + _ = _
  rw [Ideal.ofBits_zero_f32, zero_add]
  exact Finset.sum_congr rfl fun k _ => congrArg v (ref_lift i k)

/-- One entry per token stretched over the token's row. -/
theorem ref_stretch {α : Type} (v : S256.Idx → α) (i : Fin 256) (e : Fin 32) :
    broadcastInDim S256x32 ![0, 1] bcast_S256x1_S256x32_0_1 (broadcastInDim S256x1 ![0] bcast_S256_S256x1_0 v) (ix2 i e) = v (ix1 i) := by
  refine (broadcastInDim_apply _ _ _ _ (ix2 i (0 : Fin 1)) fun a => ?_).trans
    (broadcastInDim_apply _ _ _ _ (ix1 i) fun a => ?_)
  · match a with | ⟨0, _⟩ => rfl | ⟨1, _⟩ => rfl
  · match a with | ⟨0, _⟩ => rfl

/-- The exponentials of the scores above their maximum, as the reference writes them. -/
def refExp (v : FVec Ideal S256x32 .f32) : FVec Ideal S256x32 .f32 :=
  Host.exp (subf v (broadcastInDim S256x32 ![0, 1] bcast_S256x1_S256x32_0_1 (broadcastInDim S256x1 ![0] bcast_S256_S256x1_0
    (Host.reduce FloatOps.maximumf v (constant (F := Ideal) S_ .f32 0xFF800000#32) reducesTo_S256x32_S256_d1 h_S_))))

/-- Their quotient by their sum. -/
def refProbs (v : FVec Ideal S256x32 .f32) : FVec Ideal S256x32 .f32 :=
  Host.divf (refExp v) (broadcastInDim S256x32 ![0, 1] bcast_S256x1_S256x32_0_1 (broadcastInDim S256x1 ![0] bcast_S256_S256x1_0
    (Host.reduceAdd (refExp v) (constant (F := Ideal) S_ .f32 0x00000000#32) reducesTo_S256x32_S256_d1 h_S_)))

theorem refProbs_at (x : FVec Ideal S256x128 .f32) (w : FVec Ideal S128x32 .f32) (i : Fin 256) (e : Fin 32) :
    refProbs (Host.dotGeneral dot_S256x128_S128x32_S256x32_1_0_0_1_n_n none x w) (ix2 i e) = probAt x w i e := by
  have he : ∀ i e, refExp (Host.dotGeneral dot_S256x128_S128x32_S256x32_1_0_0_1_n_n none x w) (ix2 i e) = expAt x w i e := by
    intro i e
    refine congrArg Ideal.exp (congrArg₂ (fun a b : EReal => a - b) (ref_scores x w i e) ?_)
    refine (ref_stretch _ i e).trans ((ref_max _ i).trans ?_)
    exact Finset.fold_congr fun k _ => ref_scores x w i k
  refine congrArg₂ Ideal.div (he i e) ((ref_stretch _ i e).trans ((ref_sum _ i).trans ?_))
  exact Finset.sum_congr rfl fun k _ => he i k

end Cert.Moe

end
-- ==== Proof.RefExpert.lean ====
/-
# The reference's expert weights

The weights that the reference takes by a token's index: an expert's weights where the index names one of the 32
experts, zero elsewhere; and the product of a token with the weights taken for it.
-/
module

public import proofs.«01_k».proof.Proof.RefProbs

@[expose] public section

noncomputable section

namespace Cert.Moe

open Cert.ReferenceIdeal Cert.ReferenceIdeal.Gen

open Idealize.ShloMosaic
open Idealize.ShloMosaic.TcCoe
open Idealize.ShloMosaic.ValueIdx
open scoped BigOperators

/-- The column of indices, as the reference rebuilds it. -/
def refCol (jx : IVec S256x1 32) : IVec S256x1 32 :=
  broadcastInDim S256x1 ![0] bcast_S256_S256x1_0 (shapeCast _ jx shapeCasts_S256x1_S256)

theorem refCol_at (jx : IVec S256x1 32) (i : Fin 256) : refCol jx (ix2 i 0) = jx (ix2 i 0) := by
  refine (broadcastInDim_apply _ _ _ _ (ix1 i) fun a => ?_).trans (shapeCast_apply jx _ (ix1 i) (ix2 i 0) ?_)
  · match a with | ⟨0, _⟩ => rfl
  · show (Shape.rowMajor _ (ix2 i 0)).val = (Shape.rowMajor _ (ix1 i)).val
    rw [Shape.rowMajor_val_one, Shape.rowMajor_val_two]
    show i.val * 1 + 0 = i.val
    omega

/-- The bit that says that a word names an expert. -/
def nameBit (n : BitVec 32) : BitVec 1 := IntOp.andi (IntOp.cmpi .sge n 0#32) (IntOp.cmpi .sle n 31#32)

/-- The reference's bits, one per token. -/
def refBits (jx : IVec S256x1 32) : IVec S256 1 :=
  Host.reduce IntOp.andi (andi (cmpi .sge (refCol jx) (broadcastInDim S256x1 ![] bcast_S_S256x1 (constantI S_ 32 0#32)))
    (cmpi .sle (refCol jx) (broadcastInDim S256x1 ![0, 1] bcast_S1x1_S256x1_0_1 (broadcastInDim S1x1 ![1] bcast_S1_S1x1_1
      (constantI S1 32 31#32))))) (constantI S_ 1 1#1) reducesTo_S256x1_S256_d1 h_S_

theorem one_reduces : S256x1.Reduces [1] S256 := by decide

theorem one_lift (i : Fin 256) : one_reduces.lift (ix1 i) (0 : Fin 1) = (ix2 i 0 : S256x1.Idx) := by
  funext a
  match a with | ⟨0, _⟩ => rfl | ⟨1, _⟩ => rfl

theorem fold_one (b : BitVec 1) (f : Fin 1 → BitVec 1) :
    (Finset.univ : Finset (Fin 1)).fold IntOp.andi b f = IntOp.andi (f 0) b := by
  rw [Finset.univ_unique, Finset.fold_singleton]; rfl

theorem refBits_at (jx : IVec S256x1 32) (i : Fin 256) : refBits jx (ix1 i) = nameBit (jx (ix2 i 0)) := by
  refine (Host.reduce_eq_fold_single IntOp.andi _ _ reducesTo_S256x1_S256_d1 one_reduces h_S_ (ix1 i)).trans ?_
  refine (fold_one _ _).trans ?_
  show IntOp.andi (andi _ _ (one_reduces.lift (ix1 i) (0 : Fin 1))) 1#1 = _
  rw [one_lift]
  show IntOp.andi (IntOp.andi (IntOp.cmpi .sge (refCol jx (ix2 i 0)) 0#32) (IntOp.cmpi .sle (refCol jx (ix2 i 0)) 31#32)) 1#1 = _
  rw [refCol_at]
  show IntOp.andi (nameBit _) 1#1 = _
  generalize nameBit (jx (ix2 i 0)) = b
  revert b; decide

/-- The weights taken for every token. -/
def refTaken (ew : FVec Ideal S32x128x256 .f32) (jx : IVec S256x1 32) : FVec Ideal S256x128x256 .f32 :=
  select (broadcastInDim S256x128x256 ![0] bcast_S256_S256x128x256_0 (refBits jx))
    (Host.gather gather_S32x128x256_S256x1_S256x128x256_12_0_n_n_0_1_1128256 ew (refCol jx))
    (broadcastInDim S256x128x256 ![] bcast_S_S256x128x256 (constant (F := Ideal) S_ .f32 0x00000000#32))

theorem refTaken_at (ew : FVec Ideal S32x128x256 .f32) (jx : IVec S256x1 32) (i : Fin 256) (k : Fin 128) (o : Fin 256) :
    refTaken ew jx (ix3 i k o) = if nameBit (jx (ix2 i 0)) = 1#1 then ew (ix3 (clamped (jx (ix2 i 0))) k o) else 0 := by
  have hb : broadcastInDim S256x128x256 ![0] bcast_S256_S256x128x256_0 (refBits jx) (ix3 i k o) = nameBit (jx (ix2 i 0)) := by
    refine (broadcastInDim_apply _ _ _ _ (ix1 i) fun a => ?_).trans (refBits_at jx i)
    match a with | ⟨0, _⟩ => rfl
  have hg : Host.gather gather_S32x128x256_S256x1_S256x128x256_12_0_n_n_0_1_1128256 ew (refCol jx) (ix3 i k o)
      = ew (ix3 (clamped (jx (ix2 i 0))) k o) := (takeExpert ew (refCol jx) i k o).trans (by rw [refCol_at])
  show Scalar.select (broadcastInDim S256x128x256 ![0] bcast_S256_S256x128x256_0 (refBits jx) (ix3 i k o)) _ (Ideal.ofBits .f32 0x00000000#32) = _
  rw [hb, hg, Ideal.ofBits_zero_f32]
  rfl

/-- A token times the weights taken for it. -/
theorem ref_batched (x : FVec Ideal S256x128 .f32) (W : FVec Ideal S256x128x256 .f32) (i : Fin 256) (o : Fin 256) :
    (Host.dotGeneral dot_S256x128_S256x128x256_S256x256_1_1_n_2_0_0 none x W : FVec Ideal S256x256 .f32) (ix2 i o)
      = ∑ k : Fin 128, x (ix2 i k) * W (ix3 i k o) := by
  show FloatOps.dotGeneral (F := Ideal) dot_S256x128_S256x128x256_S256x256_1_1_n_2_0_0 none _ x W (ix2 i o) = _
  rw [Ideal.dotGeneral_apply, ← Equiv.sum_comp (contrEquiv1 dot_S256x128_S256x128x256_S256x256_1_1_n_2_0_0 128 rfl rfl).symm]
  refine Finset.sum_congr rfl fun k _ => ?_
  have hk := contrEquiv1_symm_val dot_S256x128_S256x128x256_S256x256_1_1_n_2_0_0 128 rfl rfl k
  have el : dot_S256x128_S256x128x256_S256x256_1_1_n_2_0_0.lhsIdx (ix2 i o) ((contrEquiv1 _ 128 rfl rfl).symm k) = (ix2 i k : S256x128.Idx) := by
    funext a; apply Fin.ext
    match a with
    | ⟨0, _⟩ => rfl
    | ⟨1, _⟩ => exact hk
  have er : dot_S256x128_S256x128x256_S256x256_1_1_n_2_0_0.rhsIdx (ix2 i o) ((contrEquiv1 _ 128 rfl rfl).symm k) = (ix3 i k o : S256x128x256.Idx) := by
    funext a; apply Fin.ext
    match a with
    | ⟨0, _⟩ => rfl
    | ⟨1, _⟩ => exact hk
    | ⟨2, _⟩ => rfl
  rw [el, er]

end Cert.Moe

end
-- ==== Proof.RefValue.lean ====
/-
# The reference's result

The reference's result at a token and a column: the token times the shared weights, plus a probability times the token
times an expert's weights. Where the token's index names an expert it is that expert's probability and that expert's
weights; elsewhere the weights are zero.
-/
module

public import proofs.«01_k».proof.Proof.RefExpert
public import Idealize.ShloMosaic.Lib.WordArith

@[expose] public section

noncomputable section

namespace Cert.Moe

open Cert.ReferenceIdeal Cert.ReferenceIdeal.Gen

open Idealize.ShloMosaic
open Idealize.ShloMosaic.TcCoe
open Idealize.ShloMosaic.ValueIdx
open scoped BigOperators

/-! ## The words -/

/-- A negative word counted from the end. -/
def wrapped (n : BitVec 32) : BitVec 32 := Scalar.select (IntOp.cmpi .slt n 0#32) (n + 32#32) n

theorem name_of_bit {n : BitVec 32} (h : nameBit n = 1#1) : ∃ e : Fin 32, n = BitVec.ofNat 32 e.val := by
  have h' : ((0#32).sle n && n.sle 31#32) = true := by
    unfold nameBit IntOp.cmpi at h
    rw [show IntOp.andi _ _ = BitVec.ofBool _ from BitVec.ofBool_and_ofBool] at h
    revert h
    generalize ((0#32).sle n && n.sle 31#32) = b
    cases b <;> decide
  rw [Bool.and_eq_true, BitVec.sle_iff_toInt_le, BitVec.sle_iff_toInt_le] at h'
  obtain ⟨h0, h1⟩ := h'
  have z : (0#32).toInt = 0 := by decide
  have t : (31#32).toInt = 31 := by decide
  rw [z] at h0; rw [t] at h1
  rw [BitVec.toInt_eq_toNat_cond] at h0 h1
  have hlt := n.isLt
  have hn : n.toNat < 32 := by
    split at h0 <;> rename_i hc
    · rw [if_pos hc] at h1; omega
    · omega
  exact ⟨⟨n.toNat, hn⟩, by simp⟩

theorem bit_of_name (e : Fin 32) : nameBit (BitVec.ofNat 32 e.val) = 1#1 := by revert e; decide
theorem wrapped_name (e : Fin 32) : wrapped (BitVec.ofNat 32 e.val) = BitVec.ofNat 32 e.val := by revert e; decide
theorem clamped_name (e : Fin 32) : clamped (BitVec.ofNat 32 e.val) = e := by revert e; decide

/-! ## The probability taken for a token -/

def refPicked (x : FVec Ideal S256x128 .f32) (w : FVec Ideal S128x32 .f32) (jx : IVec S256x1 32) : FVec Ideal S256x1 .f32 :=
  Host.gather gather_S256x32_S256x1x1_S256x1_n_1_0_0_1_2_11
    (refProbs (Host.dotGeneral dot_S256x128_S128x32_S256x32_1_0_0_1_n_n none x w))
    (shapeCast _ (select (cmpi .slt jx (broadcastInDim S256x1 ![] bcast_S_S256x1 (constantI S_ 32 0#32)))
      (addi jx (broadcastInDim S256x1 ![] bcast_S_S256x1 (constantI S_ 32 32#32))) jx) shapeCasts_S256x1_S256x1x1)

theorem refPicked_at (x : FVec Ideal S256x128 .f32) (w : FVec Ideal S128x32 .f32) (jx : IVec S256x1 32) (i : Fin 256) :
    refPicked x w jx (ix2 i 0) = probAt x w i (clamped (wrapped (jx (ix2 i 0)))) := by
  refine (takeProb _ _ i).trans ((refProbs_at x w i _).trans ?_)
  refine congrArg (fun n => probAt x w i (clamped n)) ?_
  refine (shapeCast_apply _ _ (ix3 i 0 0) (ix2 i 0) ?_).trans rfl
  show (Shape.rowMajor _ (ix2 i 0)).val = (Shape.rowMajor _ (ix3 i 0 0)).val
  rw [Shape.rowMajor_val_two, Shape.rowMajor_val_three]
  show i.val * 1 + 0 = (i.val * 1 + 0) * 1 + 0
  omega

/-! ## The result -/

def refOut (x : FVec Ideal S256x128 .f32) (w : FVec Ideal S128x32 .f32) (jx : IVec S256x1 32) (ew : FVec Ideal S32x128x256 .f32)
    (sw : FVec Ideal S128x256 .f32) : FVec Ideal S256x256 .f32 :=
  addf (Host.dotGeneral dot_S256x128_S128x256_S256x256_1_0_0_1_n_n none x sw)
    (mulf (broadcastInDim S256x256 ![0, 1] bcast_S256x1_S256x256_0_1 (refPicked x w jx))
      (Host.dotGeneral dot_S256x128_S256x128x256_S256x256_1_1_n_2_0_0 none x (refTaken ew jx)))

/-- One expert's weights out of all. -/
def expertOf (ew : S32x128x256.Idx → EReal) (e : Fin 32) : S128x256.Idx → EReal := fun j => ew (ix3 e (j 0) (j 1))

theorem refOut_at (x : FVec Ideal S256x128 .f32) (w : FVec Ideal S128x32 .f32) (jx : IVec S256x1 32) (ew : FVec Ideal S32x128x256 .f32)
    (sw : FVec Ideal S128x256 .f32) (i : Fin 256) (o : Fin 256) :
    refOut x w jx ew sw (ix2 i o) = dotAt x sw i o + probAt x w i (clamped (wrapped (jx (ix2 i 0))))
      * ∑ k : Fin 128, x (ix2 i k) * (if nameBit (jx (ix2 i 0)) = 1#1 then ew (ix3 (clamped (jx (ix2 i 0))) k o) else 0) := by
  have hp : broadcastInDim S256x256 ![0, 1] bcast_S256x1_S256x256_0_1 (refPicked x w jx) (ix2 i o)
      = probAt x w i (clamped (wrapped (jx (ix2 i 0)))) := by
    refine (broadcastInDim_apply _ _ _ _ (ix2 i (0 : Fin 1)) fun a => ?_).trans (refPicked_at x w jx i)
    match a with | ⟨0, _⟩ => rfl | ⟨1, _⟩ => rfl
  refine congrArg₂ (fun a b : EReal => a + b) (ref_shared x sw i o) (congrArg₂ (fun a b : EReal => a * b) hp ?_)
  refine (ref_batched x _ i o).trans (Finset.sum_congr rfl fun k _ => ?_)
  rw [refTaken_at]

/-- Where the index names an expert. -/
theorem refOut_named (x : FVec Ideal S256x128 .f32) (w : FVec Ideal S128x32 .f32) (jx : IVec S256x1 32) (ew : FVec Ideal S32x128x256 .f32)
    (sw : FVec Ideal S128x256 .f32) (i : Fin 256) (o : Fin 256) (e : Fin 32) (he : jx (ix2 i 0) = BitVec.ofNat 32 e.val) :
    refOut x w jx ew sw (ix2 i o) = dotAt x sw i o + probAt x w i e * dotAt x (expertOf ew e) i o := by
  rw [refOut_at, he, wrapped_name, clamped_name]
  simp only [bit_of_name, if_true]
  rfl

/-- Where it names none. -/
theorem refOut_unnamed (x : FVec Ideal S256x128 .f32) (w : FVec Ideal S128x32 .f32) (jx : IVec S256x1 32) (ew : FVec Ideal S32x128x256 .f32)
    (sw : FVec Ideal S128x256 .f32) (i : Fin 256) (o : Fin 256) (he : nameBit (jx (ix2 i 0)) ≠ 1#1) :
    refOut x w jx ew sw (ix2 i o) = dotAt x sw i o := by
  rw [refOut_at]
  have hz : ∑ k : Fin 128, x (ix2 i k) * (if nameBit (jx (ix2 i 0)) = 1#1 then ew (ix3 (clamped (jx (ix2 i 0))) k o) else 0) = (0 : EReal) :=
    Finset.sum_eq_zero fun k _ => by rw [if_neg he]; exact mul_zero _
  rw [hz, mul_zero, add_zero]

end Cert.Moe

end
-- ==== Proof.Equation.lean ====
/-
# The sum over the devices is the reference's expert term

A token's index names at most one expert. Its owner's part is the expert's probability times the token times the
expert's weights; every other part is zero.
-/
module

public import proofs.«01_k».proof.Proof.RefValue
public import proofs.«01_k».proof.Proof.Result

@[expose] public section

noncomputable section

namespace Cert.Moe

open Cert.KernelIdeal Cert.KernelIdeal.Gen

open Idealize.ShloMosaic
open Idealize.ShloMosaic.TcCoe
open Idealize.ShloMosaic.ValueIdx
open scoped BigOperators

theorem word_inj {a b : ℕ} (ha : a < 32) (hb : b < 32) (h : BitVec.ofNat 32 a = BitVec.ofNat 32 b) : a = b := by
  have := congrArg BitVec.toNat h
  simp only [BitVec.toNat_ofNat] at this
  omega

theorem pickAt_named (x : S256x128.Idx → EReal) (w : S128x32.Idx → EReal) (ix : S256x1.Idx → BitVec 32) (i : Fin 256) (e : Fin 32)
    (he : ix (ix2 i 0) = BitVec.ofNat 32 e.val) : pickAt x w ix i = probAt x w i e := by
  unfold pickAt
  rw [Finset.sum_eq_single e]
  · rw [if_pos he.symm]
  · intro j _ hj
    rw [if_neg fun h => hj (Fin.ext (word_inj j.isLt e.isLt (h.trans he)))]
  · intro h; exact absurd (Finset.mem_univ _) h

theorem gateAt_named (x : S256x128.Idx → EReal) (w : S128x32.Idx → EReal) (ix : S256x1.Idx → BitVec 32) (i : Fin 256) (e : Fin 32)
    (he : ix (ix2 i 0) = BitVec.ofNat 32 e.val) (n : ℕ) (hn : n < 32) :
    gateAt x w ix n i = if n = e.val then probAt x w i e else 0 := by
  unfold gateAt
  rw [pickAt_named x w ix i e he, he]
  by_cases h : n = e.val
  · rw [if_pos (by rw [h]), if_pos h]
  · rw [if_neg fun h' => h (word_inj hn e.isLt h'.symm), if_neg h]

theorem gateAt_unnamed (x : S256x128.Idx → EReal) (w : S128x32.Idx → EReal) (ix : S256x1.Idx → BitVec 32) (i : Fin 256)
    (he : nameBit (ix (ix2 i 0)) ≠ 1#1) (n : ℕ) (hn : n < 32) : gateAt x w ix n i = 0 :=
  if_neg fun h => he ((congrArg nameBit h).trans (bit_of_name ⟨n, hn⟩))

/-- The expert that is device `d`'s `b`th. -/
def owned (d : Dev nD) (b : Fin 2) : Fin 32 := ⟨2 * d.val + b.val, by have h : d.val < 16 := d.isLt; have := b.isLt; omega⟩

variable (A : Dev nD → Args Ideal) (x : S256x128.Idx → EReal) (w : S128x32.Idx → EReal) (ix : S256x1.Idx → BitVec 32)
  (ew : (⟨3, ![32, 128, 256]⟩ : Shape).Idx → EReal)
  (hx : ∀ d, (A d).x = x) (hw : ∀ d, (A d).rw = w) (hi : ∀ d, (A d).ix = ix)
  (he : ∀ d b, expertAt (A d).ew b = expertOf ew (owned d b))

include hx hw hi he

theorem part_unnamed (i : Fin 256) (o : Fin 256) (h : nameBit (ix (ix2 i 0)) ≠ 1#1) (d : Dev nD) : partAt d (A d) i o = 0 := by
  have hd : d.val < 16 := d.isLt
  unfold partAt
  rw [hx, hw, hi, gateAt_unnamed x w ix i h _ (by omega), gateAt_unnamed x w ix i h _ (by omega), weighted_zero, weighted_zero, add_zero]

/-- One expert's share of a device's part. -/
theorem share_named (fx : ∀ j, IsNum (x j)) (fw : ∀ j, IsNum (w j)) (i : Fin 256) (o : Fin 256) (e : Fin 32)
    (h : ix (ix2 i 0) = BitVec.ofNat 32 e.val) (d : Dev nD) (b : Fin 2) :
    weighted (gateAt x w ix (2 * d.val + b.val) i) x (expertAt (A d).ew b) i o
      = if owned d b = e then probAt x w i e * dotAt (M := 256) x (expertOf ew e) i o else 0 := by
  rw [gateAt_named x w ix i e h (2 * d.val + b.val) (owned d b).isLt]
  by_cases hb : owned d b = e
  · rw [if_pos hb, if_pos (show 2 * d.val + b.val = e.val from congrArg Fin.val hb), he, hb, weighted_num (probAt_num fx fw i e)]
  · rw [if_neg hb, if_neg (show ¬ 2 * d.val + b.val = e.val from fun h' => hb (Fin.ext h')), weighted_zero]

theorem part_named (fx : ∀ j, IsNum (x j)) (fw : ∀ j, IsNum (w j)) (i : Fin 256) (o : Fin 256) (e : Fin 32)
    (h : ix (ix2 i 0) = BitVec.ofNat 32 e.val) :
    ∑ d : Dev nD, partAt d (A d) i o = probAt x w i e * dotAt (M := 256) x (expertOf ew e) i o := by
  have hp : ∀ d : Dev nD, partAt d (A d) i o
      = (if owned d 0 = e then probAt x w i e * dotAt (M := 256) x (expertOf ew e) i o else 0)
        + (if owned d 1 = e then probAt x w i e * dotAt (M := 256) x (expertOf ew e) i o else 0) := by
    intro d
    unfold partAt
    rw [hx, hw, hi]
    exact congrArg₂ (fun a b : EReal => a + b) (share_named A x w ix ew hx hw hi he fx fw i o e h d 0)
      (share_named A x w ix ew hx hw hi he fx fw i o e h d 1)
  generalize probAt x w i e * dotAt (M := 256) x (expertOf ew e) i o = P at hp ⊢
  have hlt : e.val / 2 < 16 := by have := e.isLt; omega
  rw [Finset.sum_congr rfl fun d _ => hp d, Finset.sum_eq_single (⟨e.val / 2, hlt⟩ : Dev nD)]
  · rcases Nat.mod_two_eq_zero_or_one e.val with hm | hm
    · rw [if_pos (Fin.ext (show 2 * (e.val / 2) + 0 = e.val by omega)), if_neg fun h' => by
        have : 2 * (e.val / 2) + 1 = e.val := congrArg Fin.val h'
        omega, add_zero]
    · rw [if_neg fun h' => by
        have : 2 * (e.val / 2) + 0 = e.val := congrArg Fin.val h'
        omega, if_pos (Fin.ext (show 2 * (e.val / 2) + 1 = e.val by omega)), zero_add]
  · intro d _ hd
    have hne : d.val ≠ e.val / 2 := fun h' => hd (Fin.ext h')
    rw [if_neg fun h' => by
        have : 2 * d.val + 0 = e.val := congrArg Fin.val h'
        omega, if_neg fun h' => by
        have : 2 * d.val + 1 = e.val := congrArg Fin.val h'
        omega, add_zero]
  · intro h'; exact absurd (Finset.mem_univ _) h'

/-- The kernel's result on a device is the reference's at the device's rows. -/
theorem outC_eq (sw : S128x256.Idx → EReal) (hs : ∀ d, (A d).sw = sw) (fx : ∀ j, IsNum (x j)) (fw : ∀ j, IsNum (w j))
    (c : Dev nD) (r : Fin 16) (o : Fin 256) : outC A c (ix2 r o) = refOut x w ix ew sw (ix2 (tok c r) o) := by
  rw [outC_at, hx, hs]
  by_cases hb : nameBit (ix (ix2 (tok c r) 0)) = 1#1
  · obtain ⟨e, hn⟩ := name_of_bit hb
    rw [part_named A x w ix ew hx hw hi he fx fw _ _ e hn]
    exact (refOut_named x w ix ew sw (tok c r) o e hn).symm
  · rw [Finset.sum_eq_zero fun d _ => part_unnamed A x w ix ew hx hw hi he _ _ hb d, add_zero]
    exact (refOut_unnamed x w ix ew sw (tok c r) o hb).symm

end Cert.Moe

end
-- ==== Proof.Protocol.lean ====
/-
# The protocol

Each device first signals every other device that its receive buffer is ready, handing over the slot the other will
write; it waits for fifteen such signals, sends its fifteen blocks, and waits for the fifteen blocks sent to it. This
module states that as one round per semaphore: who pays which duty, in what amount, handing over what; what each device
owes at launch; and the levels that make every wait well founded.
-/
module

public import proofs.«01_k».proof.Proof.Contents

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's copy of the rounds, and the exchange's, whose duties are named by offsets -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

/-- The device `o` ahead of `c`, and the opposite offset. -/
def ahead (c : Dev nD) (o : Fin 16) : Dev nD := (c : Fin 16) + o
def opp (o : Fin 16) : Fin 16 := 0 - o

theorem ahead_opp : ∀ c o : Fin 16, ahead (ahead c o) (opp o) = c := by unfold ahead opp; decide
theorem opp_ahead : ∀ c o : Fin 16, ahead (ahead c (opp o)) o = c := by unfold ahead opp; decide
theorem opp_opp : ∀ o : Fin 16, opp (opp o) = o := by unfold opp; decide
theorem opp_ne {o : Fin 16} (h : o ≠ 0) : opp o ≠ 0 := by revert o; unfold opp; decide
theorem ahead_sub : ∀ c d : Fin 16, ahead c (d - c) = d := by unfold ahead; decide
theorem ahead_inj_right : ∀ c : Fin 16, ∀ {o o' : Fin 16}, ahead c o = ahead c o' → o = o' := by unfold ahead; decide
theorem ahead_val (c : Dev nD) (o : Fin 16) : (ahead c o).val = (c.val + o.val) % 16 := rfl
theorem ahead_inj (o : Fin 16) {c c' : Dev nD} : ahead c o = ahead c' o ↔ c = c' :=
  ⟨fun h => by rw [← ahead_opp c o, h]; exact ahead_opp c' o, fun h => h ▸ rfl⟩

/-! ## Cells -/

abbrev barCell (c : Dev nD) : GSem nD τ sig := ((c : Thread nD τ), .reg barS)
abbrev sendCell (c : Dev nD) (o : Fin 16) : GSem nD τ sig := ((c : Thread nD τ), .dma (sendQ o))
abbrev recvCell (c : Dev nD) (o : Fin 16) : GSem nD τ sig := ((c : Thread nD τ), .dma (recvQ o))

/-- A device's thirty-three cells: the barrier, the sixteen send cells, the sixteen receive cells. -/
abbrev CI : Type := Unit ⊕ (Fin 16 ⊕ Fin 16)
abbrev csem : CI → SemLoc sig
  | .inl _ => .reg barS
  | .inr (.inl o) => .dma (sendQ o)
  | .inr (.inr o) => .dma (recvQ o)
abbrev kcell (ck : Dev nD × CI) : GSem nD τ sig := ((ck.1 : Thread nD τ), csem ck.2)

/-- The credit of one block. -/
abbrev N : ℕ := (slotM ![0, 0, 0] (inbSlot 0)).view.dmaCredit
theorem N_pos : 0 < N := View.dmaCredit_pos _ (by decide)

/-! ## Holdings -/

abbrev sLoc (c : Dev nD) : Loc nD τ sig := (c : Thread nD τ).loc cc0_scratch0
abbrev rLoc (c : Dev nD) : Loc nD τ sig := (c : Thread nD τ).loc cc0_scratch1

/-- Slot `o` of device `c`'s receive buffer, at contents `f`; at some contents; as it lands. -/
def slotAt (c : Dev nD) (o : Fin 16) (f : (cc0_scratch1 : Ref sig .tc).ty.Contents (Elt F)) : sProp 𝕄 := rLoc c ↦[slotE o]{fullShare} f
def slotAny (c : Dev nD) (o : Fin 16) : sProp 𝕄 := iprop(∃ f : (cc0_scratch1 : Ref sig .tc).ty.Contents (Elt F), slotAt c o f)

variable (A : Dev nD → Args F)

def slotIn (c : Dev nD) (o : Fin 16) : sProp 𝕄 := slotAt c o (recvC A c)
/-- Device `c`'s block for the device `o` ahead, as stored in its send buffer. -/
def blk (c : Dev nD) (o : Fin 16) : sProp 𝕄 := sLoc c ↦[rowsE (ahead c o)]{fullShare} (sendC c (A c))

instance slotAt_storable (c : Dev nD) (o : Fin 16) (f) : BI.Storable (upEmb : UEmb _ 𝕄) (slotAt (F := F) c o f) := by unfold slotAt; infer_instance
instance slotAny_storable (c : Dev nD) (o : Fin 16) : BI.Storable (upEmb : UEmb _ 𝕄) (slotAny (F := F) c o) := by unfold slotAny; infer_instance
instance slotIn_storable (c : Dev nD) (o : Fin 16) : BI.Storable (upEmb : UEmb _ 𝕄) (slotIn (F := F) A c o) := by unfold slotIn; infer_instance
instance blk_storable (c : Dev nD) (o : Fin 16) : BI.Storable (upEmb : UEmb _ 𝕄) (blk (F := F) A c o) := by unfold blk; infer_instance

/-! ## The schedule -/

/-- The duties of a semaphore: the barrier has one per other device, a send or receive semaphore of a nonzero offset one. -/
def dutiesOf : SemLoc sig → Finset (Fin 16)
  | .reg _ => offs
  | .dma q => if 6 ≤ q.val ∧ offOf q ≠ 0 then {0} else ∅
def amountOf : SemLoc sig → ℕ
  | .reg _ => 1
  | .dma _ => N
/-- What a duty of device `c`'s semaphore hands over: a barrier duty `d`, the slot device `c` will write in the receive
    buffer of the device `d` ahead; a send semaphore, the block sent, back; a receive semaphore, the slot as it landed. -/
def payOf (c : Dev nD) (sm : SemLoc sig) (d : Fin 16) : sProp 𝕄 :=
  match sm with
  | .reg _ => slotAny (ahead c d) d
  | .dma q => if q.val < 22 then blk A c (offOf q) else slotIn A c (offOf q)

def exch : Rounds.Schedule (GSem nD τ sig) (Fin 16) 𝕄 where
  duties g r := if r = 0 ∧ g.1.2 = .tc then dutiesOf g.2 else ∅
  unitless _ := False
  amount g _ _ := amountOf g.2
  payload g _ d := payOf A g.1.1 g.2 d
  amount_pos g _ _ _ := by
    show 0 < amountOf g.2
    cases g.2 with
    | reg _ => exact Nat.one_pos
    | dma _ => exact N_pos

instance exch_storable (g : GSem nD τ sig) (r : ℕ) (d : Fin 16) : BI.Storable (upEmb : UEmb _ 𝕄) ((exch (F := F) A).payload g r d) := by
  show BI.Storable upEmb (payOf A g.1.1 g.2 d)
  unfold payOf
  split
  · infer_instance
  · split <;> infer_instance

section Sched
variable (c : Dev nD) (o : Fin 16)

theorem duties_now (sm : SemLoc sig) : (exch A).duties ((c : Thread nD τ), sm) 0 = dutiesOf sm := by dsimp only [exch]; exact if_pos ⟨rfl, rfl⟩
theorem duties_bar : (exch A).duties (barCell c) 0 = offs := duties_now A c _
theorem duties_dma (q : DmaSem sig) (hq : 6 ≤ q.val) (h : offOf q ≠ 0) : (exch A).duties ((c : Thread nD τ), .dma q) 0 = {0} :=
  (duties_now A c _).trans (by dsimp only [dutiesOf]; exact if_pos ⟨hq, h⟩)
theorem duties_dma0 (q : DmaSem sig) (h : offOf q = 0) : (exch A).duties ((c : Thread nD τ), .dma q) 0 = ∅ :=
  (duties_now A c _).trans (by dsimp only [dutiesOf]; exact if_neg fun h' => h'.2 h)
theorem duties_send (h : o ≠ 0) : (exch A).duties (sendCell c o) 0 = {0} :=
  duties_dma A c _ (Nat.le_add_right 6 _) (by rw [offOf_sendQ]; exact h)
theorem duties_recv (h : o ≠ 0) : (exch A).duties (recvCell c o) 0 = {0} :=
  duties_dma A c _ (show 6 ≤ 22 + o.val by omega) (by rw [offOf_recvQ]; exact h)
theorem duties_send0 : (exch A).duties (sendCell c 0) 0 = ∅ := duties_dma0 A c _ (offOf_sendQ 0)
theorem duties_recv0 : (exch A).duties (recvCell c 0) 0 = ∅ := duties_dma0 A c _ (offOf_recvQ 0)
theorem duties_later (g : GSem nD τ sig) (r : ℕ) (hr : 1 ≤ r) : (exch A).duties g r = ∅ := by
  dsimp only [exch]; exact if_neg fun h => by omega

theorem payload_send (d : Fin 16) : (exch A).payload (sendCell c o) 0 d = blk A c o := by
  have h : (exch A).payload (sendCell c o) 0 d = blk A c (offOf (sendQ o)) :=
    if_pos (by have := o.isLt; show 6 + o.val < 22; omega)
  rw [h, offOf_sendQ]
theorem payload_recv (d : Fin 16) : (exch A).payload (recvCell c o) 0 d = slotIn A c o := by
  have h : (exch A).payload (recvCell c o) 0 d = slotIn A c (offOf (recvQ o)) := if_neg (by show ¬ (22 + o.val < 22); omega)
  rw [h, offOf_recvQ]

theorem expect_bar : (exch A).expect (barCell c) 0 = 15 := by
  unfold Schedule.expect Schedule.amountOf
  rw [duties_bar]
  show ∑ d ∈ offs, 1 = 15
  decide
theorem expect_send (h : o ≠ 0) : (exch A).expect (sendCell c o) 0 = N := by
  unfold Schedule.expect Schedule.amountOf; rw [duties_send A c o h, Finset.sum_singleton]; rfl
theorem expect_recv (h : o ≠ 0) : (exch A).expect (recvCell c o) 0 = N := by
  unfold Schedule.expect Schedule.amountOf; rw [duties_recv A c o h, Finset.sum_singleton]; rfl

theorem rest_bar : bigSep ((exch A).duties (barCell c) 0 \ ∅) (fun d => (exch A).payload (barCell c) 0 d)
    = bigSep offs (fun d => (slotAny (ahead c d) d : sProp 𝕄)) := by
  rw [Finset.sdiff_empty, duties_bar]; rfl
theorem rest_send (h : o ≠ 0) : bigSep ((exch A).duties (sendCell c o) 0 \ ∅) (fun d => (exch A).payload (sendCell c o) 0 d) = blk A c o := by
  rw [Finset.sdiff_empty, duties_send A c o h, bigSep_singleton, payload_send]
theorem rest_recv (h : o ≠ 0) : bigSep ((exch A).duties (recvCell c o) 0 \ ∅) (fun d => (exch A).payload (recvCell c o) 0 d) = slotIn A c o := by
  rw [Finset.sdiff_empty, duties_recv A c o h, bigSep_singleton, payload_recv]

end Sched

/-! ## Owing, and levels -/

/-- One signal to the device `o` ahead; one block to it. -/
def barT (c : Dev nD) (o : Fin 16) : CellTallies nD τ sig Unit := tallyAt (barCell (ahead c o)) () 1
def recvT (c : Dev nD) (o : Fin 16) : CellTallies nD τ sig Unit := tallyAt (recvCell (ahead c o) o) () N

/-- What device `c` owes with the offsets `B` still to signal and `R` still to send to. -/
def owed (c : Dev nD) (B R : Finset (Fin 16)) : CellTallies nD τ sig Unit := ∑ o ∈ B, barT c o + ∑ o ∈ R, recvT c o

theorem owed_bar (c : Dev nD) {B : Finset (Fin 16)} (R : Finset (Fin 16)) {o : Fin 16} (h : o ∈ B) : owed c B R = owed c (B.erase o) R + barT c o := by
  unfold owed; rw [← Finset.sum_erase_add B (barT c) h]; exact add_right_comm _ _ _
theorem owed_recv (c : Dev nD) (B : Finset (Fin 16)) {R : Finset (Fin 16)} {o : Fin 16} (h : o ∈ R) : owed c B R = owed c B (R.erase o) + recvT c o := by
  unfold owed; rw [← Finset.sum_erase_add R (recvT c) h]; exact (add_assoc _ _ _).symm
theorem owed_none (c : Dev nD) : owed c ∅ ∅ = 0 := by unfold owed; rw [Finset.sum_empty, Finset.sum_empty, add_zero]

def L (g : GSem nD τ sig) : Finset Unit := if g.1.2 = .tc then {()} else ∅
/-- Barrier cells at level 1, receive cells at 2, the rest at 0. -/
def lv (g : GSem nD τ sig) (_ : Unit) : ℕ := match g.2 with
  | .reg _ => 1
  | .dma q => if 22 ≤ q.val then 2 else 0

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_recv (c : Dev nD) (o : Fin 16) : lv (recvCell c o) () = 2 := if_pos (by show 22 ≤ 22 + o.val; omega)

theorem tallies_pos {I : Finset (Fin 16)} {T : Fin 16 → GSem nD τ sig} {n : ℕ} {g : GSem nD τ sig} {u : Unit}
    (h : 0 < (∑ o ∈ I, tallyAt (T o) () n : CellTallies nD τ sig Unit) g u) : ∃ o ∈ I, g = T o := by
  rw [Finset.sum_apply, Finsupp.finset_sum_apply] at h
  obtain ⟨o, ho, hp⟩ := Finset.exists_ne_zero_of_sum_ne_zero (Nat.pos_iff_ne_zero.mp h)
  rw [tallyAt_apply] at hp
  refine ⟨o, ho, ?_⟩
  by_contra hn
  exact hp (if_neg fun h' => hn h'.1)

/-- Whatever is owed is owed to a barrier cell or a receive cell. -/
theorem owed_pos {c : Dev nD} {B R : Finset (Fin 16)} {g : GSem nD τ sig} {u : Unit} (h : 0 < owed c B R g u) :
    (∃ o ∈ B, g = barCell (ahead c o)) ∨ ∃ o ∈ R, g = recvCell (ahead c o) o := by
  unfold owed at h
  rw [Pi.add_apply, Finsupp.add_apply] at h
  rcases Nat.add_pos_iff_pos_or_pos.mp h with h | h
  · exact Or.inl (tallies_pos h)
  · exact Or.inr (tallies_pos h)

theorem mayWait_stage (c : Dev nD) (q : DmaSem sig) (hq : q.val < 22) (B R : Finset (Fin 16)) :
    (levAts L lv : sProp 𝕄) ⊢ MayWait (c : Thread nD τ) (.dma q) () (owed c B R) := by
  refine MayOwe.of_cut (L := L) (lev := lv) 0 (fun p hp => by rw [Finset.mem_singleton.mp hp]; exact L_tc c _)
    (fun g u hg => by rcases owed_pos hg with ⟨o, -, rfl⟩ | ⟨o, -, rfl⟩ <;> exact L_tc _ _)
    (fun p hp => by rw [Finset.mem_singleton.mp hp]; exact (if_neg (by omega)).le)
    (fun g u hg => by
      rcases owed_pos hg with ⟨o, -, rfl⟩ | ⟨o, -, rfl⟩
      · exact Nat.one_pos
      · rw [lv_recv]; decide)

/-- At its barrier wait a device owes only blocks, and receive cells are above its barrier cell. -/
theorem mayWait_bar (c : Dev nD) (R : Finset (Fin 16)) :
    (levAts L lv : sProp 𝕄) ⊢ MayWait (c : Thread nD τ) (.reg barS) () (owed c ∅ R) :=
  MayOwe.of_cut (L := L) (lev := lv) 1 (fun p hp => by rw [Finset.mem_singleton.mp hp]; exact L_tc c _)
    (fun g u hg => by rcases owed_pos hg with ⟨o, -, rfl⟩ | ⟨o, -, rfl⟩ <;> exact L_tc _ _)
    (fun p hp => by rw [Finset.mem_singleton.mp hp]; exact le_refl 1)
    (fun g u hg => by
      rcases owed_pos hg with ⟨o, ho, rfl⟩ | ⟨o, -, rfl⟩
      · exact absurd ho (Finset.notMem_empty o)
      · rw [lv_recv]; decide)

end Cert.Moe

end
-- ==== Proof.Steps.lean ====
/-
# One step of the protocol

What a device holds in each phase — signalling, sending, waiting for what was sent to it, waiting for its own blocks
back — as a function of the offsets still to do, and what one operation of the kernel does to it.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` from the kernel's definitions, to `Q`. -/
abbrev W {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (A : Dev nD → Args F) (K : Dev nD × CI → ℕ) (c : Dev nD)

/-! ## Offsets still to do -/

/-- The offsets above `i`. -/
def above (i : ℕ) : Finset (Fin 16) := Finset.univ.filter fun o => i < o.val
theorem mem_above {i : ℕ} {o : Fin 16} : o ∈ above i ↔ i < o.val := by unfold above; simp
theorem above_zero : above 0 = offs := by unfold above; decide
theorem above_last : above 15 = ∅ := by unfold above; decide
theorem above_succ (i : ℕ) (hi : i + 1 < 16) : above (i + 1) = (above i).erase ⟨i + 1, hi⟩ := by
  ext o
  rw [Finset.mem_erase, mem_above, mem_above, Ne, Fin.ext_iff]
  show i + 1 < o.val ↔ ¬ o.val = i + 1 ∧ i < o.val
  omega
theorem succ_mem_above (i : ℕ) (hi : i + 1 < 16) : (⟨i + 1, hi⟩ : Fin 16) ∈ above i := mem_above.mpr (Nat.lt_succ_self i)
theorem succ_ne (i : ℕ) (hi : i + 1 < 16) : (⟨i + 1, hi⟩ : Fin 16) ≠ 0 := fun h => by have := congrArg Fin.val h; exact absurd this (Nat.succ_ne_zero i)

/-- Something done at `o` moves it from what is still to do to what is done. -/
theorem done_insert {R : Finset (Fin 16)} {o : Fin 16} (hR : o ∈ R) (ho : o ≠ 0) (Φ : Fin 16 → sProp 𝕄) :
    bigSep (offs \ R.erase o) Φ = iprop(Φ o ∗ bigSep (offs \ R) Φ) := by
  have h : offs \ R.erase o = insert o (offs \ R) := by
    ext j
    simp only [Finset.mem_sdiff, Finset.mem_erase, Finset.mem_insert, Finset.mem_univ, and_true, not_and]
    constructor
    · rintro ⟨h1, h2⟩
      by_cases e : j = o
      · exact Or.inl e
      · exact Or.inr ⟨h1, h2 e⟩
    · rintro (rfl | ⟨h1, h2⟩)
      · exact ⟨ho, fun h => absurd rfl h⟩
      · exact ⟨h1, fun _ => h2⟩
  rw [h, bigSep_insert (fun h' => (Finset.mem_sdiff.mp h').2 hR)]; rfl

/-! ## Records -/

/-- Every cell's invariant, and that every cell has reached its round. -/
def records : sProp 𝕄 :=
  iprop((bigSep Finset.univ fun ck : Dev nD × CI => cellInv ER (exch A) (K ck) (kcell ck)) ∗ bigSep Finset.univ fun ck : Dev nD × CI => reached ER (kcell ck) 0)

instance records_persistent : BI.Persistent (records A K) := by unfold records; infer_instance

theorem take {ι : Type} [DecidableEq ι] {s : Finset ι} {i : ι} (hi : i ∈ s) (Φ : ι → sProp 𝕄) : bigSep s Φ = iprop(Φ i ∗ bigSep (s.erase i) Φ) :=
  bigSep_erase hi

theorem inv_of (ck : Dev nD × CI) : records A K ⊢ cellInv ER (exch A) (K ck) (kcell ck) := by
  unfold records
  have h : (bigSep Finset.univ fun ck : Dev nD × CI => (cellInv ER (exch A) (K ck) (kcell ck) : sProp 𝕄)) ⊢ cellInv ER (exch A) (K ck) (kcell ck) :=
    bigSep_elim (Finset.mem_univ ck)
  iintro ⟨H, -⟩
  iapply h; iexact H
theorem reached_of (ck : Dev nD × CI) : records A K ⊢ reached ER (kcell ck) 0 := by
  unfold records
  have h : (bigSep Finset.univ fun ck : Dev nD × CI => (reached ER (kcell ck) 0 : sProp 𝕄)) ⊢ reached ER (kcell ck) 0 := bigSep_elim (Finset.mem_univ ck)
  iintro ⟨-, H⟩
  iapply h; iexact H

abbrev bar (c : Dev nD) : Dev nD × CI := (c, .inl ())
abbrev snd (c : Dev nD) (o : Fin 16) : Dev nD × CI := (c, .inr (.inl o))
abbrev rcv (c : Dev nD) (o : Fin 16) : Dev nD × CI := (c, .inr (.inr o))

/-! ## Signalling -/

/-- With the offsets `B` still to signal: those signals' duties and the slots they hand over, and what is owed. -/
def sigS (B : Finset (Fin 16)) : sProp 𝕄 :=
  iprop(records A K ∗ (bigSep B fun o => iprop(dutyTok ER (barCell (ahead c o)) 0 (opp o) ∗ slotAny c (opp o)))
    ∗ ∃ W, owes (c : Thread nD τ) (owed c B offs) W)

variable {c} {α : Type}

theorem payload_signal (o : Fin 16) : (exch A).payload (barCell (ahead c o)) 0 (opp o) = slotAny c (opp o) := by
  show slotAny (ahead (ahead c o) (opp o)) (opp o) = _
  rw [ahead_opp]

theorem signal_step {Q : α → sProp 𝕄} {Fr : sProp 𝕄} (i : ℕ) (hi : i + 1 < 16) {n : Dev nD} (hn : n = ahead c ⟨i + 1, hi⟩) {k : PUnit → Prog (TpuEff nD τ sig (Elt F) Λ₀ .tc) α}
    (h : iprop(sigS A K c (above (i + 1)) ∗ Fr) ⊢ W c (k ⟨⟩) Q) :
    iprop(sigS A K c (above i) ∗ Fr) ⊢ W c (.op (.semSignal ((n, .tc) : Thread nD τ) barS ((1 : ℕ) : ℤ)) k) Q := by
  subst hn
  have ho := succ_mem_above i hi
  rw [above_succ i hi] at h
  unfold sigS at h ⊢
  rw [take ho]
  iintro ⟨⟨#HR, ⟨⟨Ht, Hs⟩, Hrest⟩, ⟨%W, HO⟩⟩, HF⟩
  iapply (Rounds.wp_signal 𝒱₀ ER (exch A) (c : Thread nD τ) none (dst := (ahead c ⟨i + 1, hi⟩ : Thread nD τ)) (κ := K (bar (ahead c ⟨i + 1, hi⟩)))
      (d := opp ⟨i + 1, hi⟩) (by rw [duties_bar]; exact mem_offs.mpr (opp_ne (succ_ne i hi))) rfl () (owed c ((above i).erase ⟨i + 1, hi⟩) offs)
      (owed_bar c offs ho)) $$ [HO Ht Hs]
  · isplitr; · iapply (inv_of A K (bar (ahead c ⟨i + 1, hi⟩))); iexact HR
    isplitl [HO]; · iexact HO
    isplitl [Ht]; · iexact Ht
    isplitl [Hs]; · rw [payload_signal]; iexact Hs
    iapply (reached_of A K (bar (ahead c ⟨i + 1, hi⟩))); iexact HR
  iintro HO
  iapply h
  isplitr [HF]
  · isplitr; · iexact HR
    isplitl [Hrest]; · iexact Hrest
    iexists W; iexact HO
  · iexact HF

/-! ## The barrier wait -/

/-- The duties of the blocks still to send, and — once signalled — the slots they go to. -/
def toks (o : Fin 16) : sProp 𝕄 := iprop(dutyTok ER (sendCell c o) 0 0 ∗ dutyTok ER (recvCell (ahead c o) o) 0 0)

/-- With the offsets `R` still to send to: their duties and slots, the credit of the blocks sent, what is owed. -/
def sendSt (R : Finset (Fin 16)) : sProp 𝕄 :=
  iprop(records A K ∗ (bigSep R fun o => iprop(toks (c := c) o ∗ slotAny (ahead c o) o))
    ∗ (bigSep (offs \ R) fun o => cred (tallyAt (sendCell c o) () N)) ∗ ∃ W, owes (c : Thread nD τ) (owed c ∅ R) W)

/-- What a device waits on its barrier with. -/
def barS₀ : sProp 𝕄 :=
  iprop(cred (tallyAt (barCell c) () 15) ∗ atPos ER (barCell c) 0 ∅ 0 ∗ levAts L lv ∗ bigSep offs fun o => toks (c := c) o)

theorem barrier_step {Q : α → sProp 𝕄} {Fr : sProp 𝕄} {k : PUnit → Prog (TpuEff nD τ sig (Elt F) Λ₀ .tc) α}
    (h : iprop(sendSt A K (c := c) offs ∗ semVal (barCell c) 0 ∗ Fr) ⊢ W c (k ⟨⟩) Q) :
    iprop(sigS A K c (above 15) ∗ barS₀ (c := c) ∗ Fr) ⊢ W c (.op (.semWait barS ((15 : ℕ) : ℤ)) k) Q := by
  rw [above_last]
  unfold sigS barS₀
  iintro ⟨⟨#HR, -, ⟨%W, HO⟩⟩, ⟨Hc, Hat, #Hlev, Htk⟩, HF⟩
  iapply (Rounds.wp_wait_rest_token 𝒱₀ ER (exch A) (c : Thread nD τ) none (κ := K (bar c))
      (wpE_semWait_eq 𝒱₀ (c : Thread nD τ) none Set.univ) (Set.mem_univ _) () (O := owed c ∅ offs) (W := W) (R := 0) (m := 0) (T := ∅)
      (by rw [expect_bar])) $$ [Hc HO Hat]
  · isplitr; · iapply (inv_of A K (bar c)); iexact HR
    isplitl [Hc]; · iexact Hc
    isplitl [HO]; · iexact HO
    isplitr; · iapply (mayWait_bar c offs); iexact Hlev
    iexact Hat
  iintro ⟨HO, Hat, -, Hpay⟩
  ihave Hp := (Entails.of_eq (rest_bar A c)) $$ Hpay
  imod (Rounds.cell_close ER (exch A) (Set.mem_univ (K (bar c))) (fun h => h) (R := 0 + 1) (duties_later A (barCell c))) $$ [Hat] with Hz
  · isplitr; · iapply (inv_of A K (bar c)); iexact HR
    iexact Hat
  iapply h
  isplitl [HO Hp Htk]
  · unfold sendSt
    isplitr; · iexact HR
    isplitl [Hp Htk]
    · iapply (Entails.of_eq (bigSep_sep' offs (fun o => toks (c := c) o) (fun o => (slotAny (ahead c o) o : sProp 𝕄))).symm)
      isplitl [Htk]; · iexact Htk
      iexact Hp
    isplitr; · rw [Finset.sdiff_self, bigSep_empty]; iempintro
    iexists _; iexact HO
  isplitl [Hz]; · iexact Hz
  iexact HF

/-! ## Sending -/

/-- The blocks for the offsets `B`, in the send buffer. -/
def blks (B : Finset (Fin 16)) : sProp 𝕄 := bigSep B fun o => blk A c o

theorem blk_eq (o : Fin 16) (h) : blk A c o = (((rowsM ![16 * (ahead c o).val, 0] h).view.loc (c : Thread nD τ))
    ↦[(rowsM ![16 * (ahead c o).val, 0] h).view.set]{fullShare} (sendC c (A c)) : sProp 𝕄) := by
  unfold blk; rw [rows_set]
theorem slotAt_eq (d : Dev nD) (o : Fin 16) (h) (f : (cc0_scratch1 : Ref sig .tc).ty.Contents (Elt F)) :
    slotAt d o f = (((slotM ![o.val, 0, 0] h).view.loc (d : Thread nD τ)) ↦[(slotM ![o.val, 0, 0] h).view.set]{fullShare} f : sProp 𝕄) := by
  unfold slotAt; rw [slot_set]

/-- A block sent: its duties, slot and contents give the credit of its return. -/
theorem send_block {Q : α → sProp 𝕄} (o : Fin 16) (ho : o ≠ 0) {n : Dev nD} (hn : n = ahead c o) {off : Fin 2 → ℕ} (hoff : off = ![16 * (ahead c o).val, 0])
    {qs qr : DmaSem sig} (hqs : qs = sendQ o) (hqr : qr = recvQ o) {hinb : ∀ a, off a + S16x256.size a ≤ S256x256.size a}
    {hsc : (slotM ![o.val, 0, 0] (inbSlot o)).view.ref.isScScratch = false}
    {hsrc : (rowsM off hinb).view.WordExact} {hdst : (slotM ![o.val, 0, 0] (inbSlot o)).view.WordExact}
    {hsem : DmaTarget.Typed .vmem (.dma qr) (.remote (Dev.tc n : Thread nD τ) (slotM ![o.val, 0, 0] (inbSlot o)) (.dma qs) hsc)}
    {k : PUnit → Prog (TpuEff nD τ sig (Elt F) Λ₀ .tc) α} (O : CellTallies nD τ sig Unit) (Wt : Waits sig Unit) :
    iprop(records A K ∗ blk A c o ∗ slotAny (ahead c o) o ∗ owes (c : Thread nD τ) (O + recvT c o) Wt ∗ toks (c := c) o)
      ⊢ iprop(((cred (tallyAt (sendCell c o) () N) ∗ owes (c : Thread nD τ) O Wt) -∗ W c (k ⟨⟩) Q)
          -∗ W c (.op (.enqueueDma (rowsM off hinb) (.remote (Dev.tc n : Thread nD τ) (slotM ![o.val, 0, 0] (inbSlot o)) (.dma qs) hsc) (.dma qr) hsrc hdst hsem) k) Q) := by
  subst hn hoff hqs hqr
  unfold slotAny toks
  rw [blk_eq A o (inbRows (ahead c o))]
  iintro ⟨#HR, Hb, ⟨%fd, Hs⟩, HO, ⟨Hts, Htr⟩⟩
  ihave Hs := (Entails.of_eq (slotAt_eq (ahead c o) o (inbSlot o) fd)) $$ Hs
  iapply (Rounds.wp_send_pointsTo 𝒱₀ ER (exch A) (c : Thread nD τ) none (κ₁ := K (snd c o)) (κ₂ := K (rcv (ahead c o) o))
    (r₁ := 0) (r₂ := 0) (d₁ := (0 : Fin 16)) (d₂ := (0 : Fin 16)) (fd := fd)
    (by rw [duties_send A c o ho]; exact Finset.mem_singleton_self _) (by rw [duties_recv A (ahead c o) o ho]; exact Finset.mem_singleton_self _)
    () () N rfl rfl rfl O rfl (W := Wt)
    (by rw [payload_send, blk_eq A o (inbRows (ahead c o))])
    (by
      rw [payload_recv]; unfold slotIn; rw [slotAt_eq (ahead c o) o (inbSlot o)]
      refine Entails.of_eq (pointsTo_congr fun j hj => ?_)
      exact landed A c o fd (by rw [← slot_set o]; exact hj))) $$ [Hb Hs HO Hts Htr]
  isplitr; · iapply (inv_of A K (snd c o)); iexact HR
  isplitr; · iapply (inv_of A K (rcv (ahead c o) o)); iexact HR
  isplitl [Hb]; · iexact Hb
  isplitl [Hs]; · iexact Hs
  isplitl [HO]; · iexact HO
  isplitl [Hts]; · iexact Hts
  isplitr; · iapply (reached_of A K (snd c o)); iexact HR
  isplitl [Htr]; · iexact Htr
  iapply (reached_of A K (rcv (ahead c o) o)); iexact HR

/-- A conditional send: if the condition holds, the block for `i` is there and is sent; if not, nothing is. -/
theorem send_step {Q : α → sProp 𝕄} {Fr : sProp 𝕄} (i : ℕ) (hi : i < 16) (hi0 : (⟨i, hi⟩ : Fin 16) ≠ 0) {R R' B B' : Finset (Fin 16)}
    {cnd : Prop} [Decidable cnd] {dev : ℕ} {off : Fin 2 → ℕ}
    (hdev : dev = (ahead c ⟨i, hi⟩).val) (hoff : off = ![16 * (ahead c ⟨i, hi⟩).val, 0])
    (hyes : cnd → (⟨i, hi⟩ : Fin 16) ∈ R ∧ (⟨i, hi⟩ : Fin 16) ∈ B ∧ R' = R.erase ⟨i, hi⟩ ∧ B' = B.erase ⟨i, hi⟩) (hno : ¬ cnd → R' = R ∧ B' = B)
    {hlt : cnd → dev < nD} {hinb : cnd → ∀ a, off a + S16x256.size a ≤ S256x256.size a}
    {hs1 hs2 : ∀ a, (![i] : Fin 1 → ℕ) a + S1.size a ≤ S16.size a} {hsl : ∀ a, (![i, 0, 0] : Fin 3 → ℕ) a + S1x16x256.size a ≤ S16x16x256.size a}
    {hsc : ∀ h : cnd, (slotM ![i, 0, 0] hsl).view.ref.isScScratch = false}
    {hsrc : ∀ h : cnd, (rowsM off (hinb h)).view.WordExact} {hdst : ∀ h : cnd, (slotM ![i, 0, 0] hsl).view.WordExact}
    {hsem : ∀ h : cnd, DmaTarget.Typed .vmem (.dma (recvS ![i] hs2)) (.remote (Dev.tc (⟨dev, hlt h⟩ : Dev nD) : Thread nD τ) (slotM ![i, 0, 0] hsl) (.dma (sendS ![i] hs1)) (hsc h))}
    {k : Prog (TpuEff nD τ sig (Elt F) Λ₀ .tc) α}
    (h : iprop(sendSt A K (c := c) R' ∗ blks A (c := c) B' ∗ Fr) ⊢ W c k Q) :
    iprop(sendSt A K (c := c) R ∗ blks A (c := c) B ∗ Fr)
      ⊢ W c (dite cnd (fun h => .op (.enqueueDma (rowsM off (hinb h)) (.remote (Dev.tc (⟨dev, hlt h⟩ : Dev nD) : Thread nD τ) (slotM ![i, 0, 0] hsl)
          (.dma (sendS ![i] hs1)) (hsc h)) (.dma (recvS ![i] hs2)) (hsrc h) (hdst h) (hsem h)) (fun _ => k)) (fun _ => k)) Q := by
  by_cases hc : cnd
  swap
  · obtain ⟨rfl, rfl⟩ := hno hc
    rw [dif_neg hc]; exact h
  obtain ⟨hR, hB, rfl, rfl⟩ := hyes hc
  rw [dif_pos hc]
  unfold sendSt blks at h ⊢
  rw [take hR, take hB, owed_recv c ∅ hR]
  rw [done_insert hR hi0] at h
  iintro ⟨⟨#HR, ⟨⟨Ht, Hs⟩, Hrest⟩, Hcr, ⟨%Wt, HO⟩⟩, ⟨Hb, Hbs⟩, HF⟩
  iapply (send_block A K ⟨i, hi⟩ hi0 (Fin.ext hdev) hoff (sendS_eq ⟨i, hi⟩) (recvS_eq ⟨i, hi⟩) _ Wt) $$ [Ht Hs Hb HO]
  · isplitr; · iexact HR
    isplitl [Hb]; · iexact Hb
    isplitl [Hs]; · iexact Hs
    isplitl [HO]; · iexact HO
    iexact Ht
  iintro ⟨Hc, HO⟩
  iapply h
  isplitl [Hrest Hcr Hc HO]
  · isplitr; · iexact HR
    isplitl [Hrest]; · iexact Hrest
    isplitl [Hc Hcr]
    · isplitl [Hc]; · iexact Hc
      iexact Hcr
    iexists Wt; iexact HO
  isplitl [Hbs]; · iexact Hbs
  iexact HF

/-! ## Waiting for blocks -/

/-- Owing nothing. -/
def idle : sProp 𝕄 := iprop(∃ W, owes (c : Thread nD τ) 0 W)

/-- Waiting on the semaphores `q o` for what they hand over, `P o`, with the offsets `R` still to wait for. -/
def waitSt (q : Fin 16 → DmaSem sig) (P : Fin 16 → sProp 𝕄) (R : Finset (Fin 16)) : sProp 𝕄 :=
  iprop(records A K ∗ (bigSep R fun o => iprop(cred (tallyAt ((c : Thread nD τ), .dma (q o)) () N) ∗ atPos ER ((c : Thread nD τ), .dma (q o)) 0 ∅ 0))
    ∗ (bigSep (offs \ R) fun o => iprop(P o ∗ semVal ((c : Thread nD τ), .dma (q o)) 0)))

theorem wait_block {Q : α → sProp 𝕄} (ck : CI) {q : DmaSem sig} (hq : csem ck = .dma q) {P : sProp 𝕄}
    (hexp : (exch A).expect ((c : Thread nD τ), .dma q) 0 = N)
    (hrest : bigSep ((exch A).duties ((c : Thread nD τ), .dma q) 0 \ ∅) (fun d => (exch A).payload ((c : Thread nD τ), .dma q) 0 d) = P)
    {qq : DmaSem sig} (hqq : qq = q) {src dst : Memref sig .tc .vmem S16x256 .bf16} (hN : dst.view.dmaCredit = N) {h1 : src.view.WordExact} {h2 : dst.view.WordExact}
    {k : PUnit → Prog (TpuEff nD τ sig (Elt F) Λ₀ .tc) α} :
    iprop(records A K ∗ cred (tallyAt ((c : Thread nD τ), .dma q) () N) ∗ atPos ER ((c : Thread nD τ), .dma q) 0 ∅ 0 ∗ idle (c := c))
      ⊢ iprop((((P ∗ semVal ((c : Thread nD τ), .dma q) 0) ∗ idle (c := c)) -∗ W c (k ⟨⟩) Q) -∗ W c (.op (.waitDma2 qq src dst h1 h2) k) Q) := by
  subst hqq
  have hi : records A K ⊢ cellInv ER (exch A) (K (c, ck)) ((c : Thread nD τ), .dma qq) := by rw [← hq]; exact inv_of A K (c, ck)
  unfold idle
  iintro ⟨#HR, Hc, Hat, ⟨%Wt, HO⟩⟩ Hk
  iapply (Rounds.wp_wait_rest_token 𝒱₀ ER (exch A) (c : Thread nD τ) none (κ := K (c, ck))
      (wpE_waitDma2_eq 𝒱₀ (c : Thread nD τ) none Set.univ) (Set.mem_univ _) () (O := 0) (W := Wt) (R := 0) (m := 0) (T := ∅)
      (by rw [Nat.zero_add, hexp, hN])) $$ [Hc HO Hat]
  · isplitr; · iapply hi; iexact HR
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (exch A) (Set.mem_univ (K (c, ck))) (fun h => h) (R := 0 + 1) (duties_later A _)) $$ [Hat] with Hz
  · isplitr; · iapply hi; iexact HR
    iexact Hat
  iapply Hk
  isplitr [HO]
  · isplitl [Hp]; · iexact Hp
    iexact Hz
  iexists _; iexact HO

theorem wait_step {Q : α → sProp 𝕄} {Fr : sProp 𝕄} (q : Fin 16 → DmaSem sig) (P : Fin 16 → sProp 𝕄) (i : ℕ) (hi : i + 1 < 16) (ck : CI)
    (hq : csem ck = .dma (q ⟨i + 1, hi⟩))
    (hexp : (exch A).expect ((c : Thread nD τ), .dma (q ⟨i + 1, hi⟩)) 0 = N)
    (hrest : bigSep ((exch A).duties ((c : Thread nD τ), .dma (q ⟨i + 1, hi⟩)) 0 \ ∅) (fun d => (exch A).payload ((c : Thread nD τ), .dma (q ⟨i + 1, hi⟩)) 0 d) = P ⟨i + 1, hi⟩)
    {qq : DmaSem sig} (hqq : qq = q ⟨i + 1, hi⟩) {src dst : Memref sig .tc .vmem S16x256 .bf16} (hN : dst.view.dmaCredit = N) {h1 : src.view.WordExact} {h2 : dst.view.WordExact}
    {k : PUnit → Prog (TpuEff nD τ sig (Elt F) Λ₀ .tc) α} (h : iprop(idle (c := c) ∗ waitSt A K (c := c) q P (above (i + 1)) ∗ Fr) ⊢ W c (k ⟨⟩) Q) :
    iprop(idle (c := c) ∗ waitSt A K (c := c) q P (above i) ∗ Fr) ⊢ W c (.op (.waitDma2 qq src dst h1 h2) k) Q := by
  have ho := succ_mem_above i hi
  rw [above_succ i hi] at h
  unfold waitSt at h ⊢
  rw [take ho]
  rw [done_insert ho (succ_ne i hi)] at h
  iintro ⟨HO, ⟨#HR, ⟨⟨Hc, Hat⟩, Hrest⟩, Hd⟩, HF⟩
  iapply (wait_block A K ck hq hexp hrest hqq hN (h1 := h1) (h2 := h2) (k := k)) $$ [HO Hc Hat]
  · isplitr; · iexact HR
    isplitl [Hc]; · iexact Hc
    isplitl [Hat]; · iexact Hat
    iexact HO
  iintro ⟨Hp, HO⟩
  iapply h
  isplitl [HO]; · iexact HO
  isplitr [HF]
  · isplitr; · iexact HR
    isplitl [Hrest]; · iexact Hrest
    isplitl [Hp]; · iexact Hp
    iexact Hd
  iexact HF

theorem slot_credit (off : Fin 3 → ℕ) (h) : (slotM off h).view.dmaCredit = N := rfl
theorem rows_credit (off : Fin 2 → ℕ) (h) : (rowsM off h).view.dmaCredit = N := rfl

/-- The blocks sent to this device; its own blocks, back. -/
theorem recv_step {Q : α → sProp 𝕄} {Fr : sProp 𝕄} (i : ℕ) (hi : i + 1 < 16) {hs : ∀ a, (![i + 1] : Fin 1 → ℕ) a + S1.size a ≤ S16.size a} {src : Memref sig .tc .vmem S16x256 .bf16}
    {hsl : ∀ a, (![i + 1, 0, 0] : Fin 3 → ℕ) a + S1x16x256.size a ≤ S16x16x256.size a} {h1 : src.view.WordExact} {h2 : (slotM ![i + 1, 0, 0] hsl).view.WordExact}
    {k : PUnit → Prog (TpuEff nD τ sig (Elt F) Λ₀ .tc) α} (h : iprop(idle (c := c) ∗ waitSt A K (c := c) recvQ (slotIn A c) (above (i + 1)) ∗ Fr) ⊢ W c (k ⟨⟩) Q) :
    iprop(idle (c := c) ∗ waitSt A K (c := c) recvQ (slotIn A c) (above i) ∗ Fr) ⊢ W c (.op (.waitDma2 (recvS ![i + 1] hs) src (slotM ![i + 1, 0, 0] hsl) h1 h2) k) Q :=
  wait_step A K recvQ (slotIn A c) i hi (.inr (.inr ⟨i + 1, hi⟩)) rfl (expect_recv A c _ (succ_ne i hi)) (rest_recv A c _ (succ_ne i hi)) (recvS_eq ⟨i + 1, hi⟩) (slot_credit _ hsl) h

theorem back_step {Q : α → sProp 𝕄} {Fr : sProp 𝕄} (i : ℕ) (hi : i + 1 < 16) {hs : ∀ a, (![i + 1] : Fin 1 → ℕ) a + S1.size a ≤ S16.size a} {src : Memref sig .tc .vmem S16x256 .bf16}
    {off : Fin 2 → ℕ} {hinb : ∀ a, off a + S16x256.size a ≤ S256x256.size a} {h1 : src.view.WordExact} {h2 : (rowsM off hinb).view.WordExact}
    {k : PUnit → Prog (TpuEff nD τ sig (Elt F) Λ₀ .tc) α} (h : iprop(idle (c := c) ∗ waitSt A K (c := c) sendQ (blk A c) (above (i + 1)) ∗ Fr) ⊢ W c (k ⟨⟩) Q) :
    iprop(idle (c := c) ∗ waitSt A K (c := c) sendQ (blk A c) (above i) ∗ Fr) ⊢ W c (.op (.waitDma2 (sendS ![i + 1] hs) src (rowsM off hinb) h1 h2) k) Q :=
  wait_step A K sendQ (blk A c) i hi (.inr (.inl ⟨i + 1, hi⟩)) rfl (expect_send A c _ (succ_ne i hi)) (rest_send A c _ (succ_ne i hi)) (sendS_eq ⟨i + 1, hi⟩) (rows_credit off hinb) h

/-! ## Reading and writing buffers -/

/-- `S` holds `X`, and is itself again once `X` is put back. -/
abbrev Holds (S X : sProp 𝕄) : Prop := S ⊢ iprop(X ∗ (X -∗ S))

theorem holds_self (S : sProp 𝕄) : Holds S S := by
  unfold Holds; iintro H; isplitl [H]; · iexact H
  iintro H; iexact H
theorem holds_left {S X R : sProp 𝕄} (h : Holds S X) : Holds iprop(S ∗ R) X := by
  unfold Holds at *
  iintro ⟨H, HR⟩
  ihave H := h $$ H
  icases H with ⟨HX, Hk⟩
  isplitl [HX]; · iexact HX
  iintro HX
  isplitr [HR]; · iapply Hk; iexact HX
  iexact HR
theorem holds_right {S X R : sProp 𝕄} (h : Holds S X) : Holds iprop(R ∗ S) X := by
  unfold Holds at *
  iintro ⟨HR, H⟩
  ihave H := h $$ H
  icases H with ⟨HX, Hk⟩
  isplitl [HX]; · iexact HX
  iintro HX
  isplitl [HR]; · iexact HR
  iapply Hk; iexact HX

/-- A load from a buffer the state holds, at known contents; at some contents; a store to one. -/
theorem load_step {S : sProp 𝕄} {Q : α → sProp 𝕄} {s : Shape} {e : EltTy} {m : Memref sig .tc .vmem s e} {r : LoadRect s} {hl : m.view.LoadsAt r}
    {I : Finset (Idx (m.view.loc (c : Thread nD τ)))} {f : Buf (Elt F) (m.view.loc (c : Thread nD τ))}
    {k : (r.shape.Idx → Elt F e) → Prog (TpuEff nD τ sig (Elt F) Λ₀ .tc) α}
    (hI : m.view.setOn r.set ⊆ I) (hS : Holds S (m.view.loc (c : Thread nD τ) ↦[I]{fullShare} f)) {v : r.shape.Idx → Elt F e}
    (hv : m.view.readAt (Elt F) r f = v) (h : S ⊢ W c (k v) Q) : S ⊢ W c (.op (.load m r hl) k) Q := by
  subst hv
  unfold Holds at hS
  iintro H
  ihave H := hS $$ H
  icases H with ⟨HX, Hk⟩
  iapply (wp_load 𝒱₀ (c : Thread nD τ) none Set.univ (m := m) (r := r) (hl := hl) hI) $$ HX
  iintro HX
  iapply h
  iapply Hk; iexact HX

theorem load_any {S : sProp 𝕄} {Q : α → sProp 𝕄} {s : Shape} {e : EltTy} {m : Memref sig .tc .vmem s e} {r : LoadRect s} {hl : m.view.LoadsAt r}
    {I : Finset (Idx (m.view.loc (c : Thread nD τ)))}
    {k : (r.shape.Idx → Elt F e) → Prog (TpuEff nD τ sig (Elt F) Λ₀ .tc) α}
    (hI : m.view.setOn r.set ⊆ I) (hS : Holds S iprop(∃ f : Buf (Elt F) (m.view.loc (c : Thread nD τ)), m.view.loc (c : Thread nD τ) ↦[I]{fullShare} f))
    (h : ∀ v, S ⊢ W c (k v) Q) : S ⊢ W c (.op (.load m r hl) k) Q := by
  unfold Holds at hS
  iintro H
  ihave H := hS $$ H
  icases H with ⟨⟨%f, HX⟩, Hk⟩
  iapply (wp_load 𝒱₀ (c : Thread nD τ) none Set.univ (m := m) (r := r) (hl := hl) hI) $$ HX
  iintro HX
  iapply (h (m.view.readAt (Elt F) r f))
  iapply Hk; iexists f; iexact HX

theorem store_step {S S' : sProp 𝕄} {Q : α → sProp 𝕄} {s : Shape} {e : EltTy} {m : Memref sig .tc .vmem s e} {r : Rect s} {w : r.shape.Idx → Elt F e}
    {hx : (m.access r).Stores Finset.univ} {hm : Finset.univ = Finset.univ ∨ ∀ a, r.stride a = 1}
    {I : Finset (Idx ((m.access r).loc (c : Thread nD τ)))} {k : PUnit → Prog (TpuEff nD τ sig (Elt F) Λ₀ .tc) α}
    (hI : (m.access r).setOn Finset.univ ⊆ I)
    (hS : S ⊢ iprop(∃ f : Buf (Elt F) ((m.access r).loc (c : Thread nD τ)), ((m.access r).loc (c : Thread nD τ) ↦[I]{fullShare} f)
      ∗ (((m.access r).loc (c : Thread nD τ) ↦[I]{fullShare} ((m.access r).write (Elt F) f w Finset.univ)) -∗ S')))
    (h : S' ⊢ W c (k ⟨⟩) Q) : S ⊢ W c (.op (.store m r w Finset.univ hx hm) k) Q := by
  iintro H
  ihave H := hS $$ H
  icases H with ⟨%f, HX, Hk⟩
  iapply (wp_store 𝒱₀ (c : Thread nD τ) none Set.univ (m := m) (r := r) (Mk := Finset.univ) (hx := hx) (hm := hm) hI) $$ HX
  iintro HX
  iapply h
  iapply Hk; iexact HX

end Cert.Moe

end
-- ==== Proof.Signals.lean ====
/-
# The parts of the kernel, up to the barrier

Each part of the kernel's body takes the state before it to the state after it.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body at the kernel's own buffers and semaphores. -/
abbrev at' {β : Type 1} (p : ∀ (arg0 : Memref sig .tc .vmem S256x128 .f32) (harg0 : arg0.IsWhole) (arg1 : Memref sig .tc .vmem S128x32 .f32) (harg1 : arg1.IsWhole) (arg2 : Memref sig .tc .vmem S256x1 .i32) (harg2 : arg2.IsWhole) (arg3 : Memref sig .tc .vmem S2x128x256 .f32) (harg3 : arg3.IsWhole) (arg4 : Memref sig .tc .vmem S128x256 .f32) (harg4 : arg4.IsWhole) (arg5 : Memref sig .tc .vmem S16x256 .f32) (harg5 : arg5.IsWhole) (arg6 : Memref sig .tc .vmem S256x256 .bf16) (harg6 : arg6.IsWhole) (arg7 : Memref sig .tc .vmem S16x16x256 .bf16) (harg7 : arg7.IsWhole) (arg8 : DmaSems sig S16) (arg9 : DmaSems sig S16), β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3

variable (A : Dev nD → Args F) (K : Dev nD × CI → ℕ) {c : Dev nD}

/-- A part's end: what it returns is handed on. -/
theorem finish {α : Type} {S : sProp 𝕄} {Q : α → sProp 𝕄} {v : α} (h : S ⊢ Q v) : S ⊢ W c (.ret v) Q := by
  unfold W; rw [wp_ret]; exact h.trans (by iintro H; imodintro; iexact H)

/-- The device's argument buffers, as staged. -/
def xP (c : Dev nD) (a : Args F) : sProp 𝕄 := (Memref.whole cc0_stg0_0 : Memref sig .tc .vmem S256x128 .f32).view.loc (c : Thread nD τ) ↦{fullShare} a.x
def rwP (c : Dev nD) (a : Args F) : sProp 𝕄 := (Memref.whole cc0_stg1_0 : Memref sig .tc .vmem S128x32 .f32).view.loc (c : Thread nD τ) ↦{fullShare} a.rw
def ixP (c : Dev nD) (a : Args F) : sProp 𝕄 := (Memref.whole cc0_stg2_0 : Memref sig .tc .vmem S256x1 .i32).view.loc (c : Thread nD τ) ↦{fullShare} a.ix
def ewP (c : Dev nD) (a : Args F) : sProp 𝕄 := (Memref.whole cc0_stg3_0 : Memref sig .tc .vmem S2x128x256 .f32).view.loc (c : Thread nD τ) ↦{fullShare} a.ew
def swP (c : Dev nD) (a : Args F) : sProp 𝕄 := (Memref.whole cc0_stg4_0 : Memref sig .tc .vmem S128x256 .f32).view.loc (c : Thread nD τ) ↦{fullShare} a.sw
/-- Its send buffer at some contents; the lower half of it. -/
def sAny (c : Dev nD) : sProp 𝕄 := iprop(∃ f : Buf (Elt F) (sM.view.loc (c : Thread nD τ)), sM.view.loc (c : Thread nD τ) ↦{fullShare} f)

theorem hz2 : (![0, 0] : Fin 2 → ℕ) = fun _ => 0 := by funext a; fin_cases a <;> rfl

theorem part1 {Q} {Fr : sProp 𝕄} (h : ∀ w w', iprop(sigS A K c (above 5) ∗ Fr) ⊢ Q ⟨c, pos c, SemArray.scalar (sig.barrier 0 rfl), w, w'⟩) :
    iprop(sigS A K c (above 0) ∗ Fr) ⊢ W c (at' k0_part1) Q := by
  unfold at'; rw [k0_part1_eq_skeleton]; unfold k0_part1_skel
  simp only [semSignalWord, semWaitWord, Prog.lift, Prog.bind_op, Prog.bind_ret, Prog.pure_eq_ret, wp_deviceId]
  refine signal_step A K 0 (by decide) (Fin.ext (k0_dev1_eq c)) ?_
  refine signal_step A K 1 (by decide) (Fin.ext (k0_dev2_eq c)) ?_
  refine signal_step A K 2 (by decide) (Fin.ext (k0_dev3_eq c)) ?_
  refine signal_step A K 3 (by decide) (Fin.ext (k0_dev4_eq c)) ?_
  refine signal_step A K 4 (by decide) (Fin.ext (k0_dev5_eq c)) ?_
  exact finish (h _ _)

theorem part2 {Q} {Fr : sProp 𝕄} {v w w' : BitVec 32} (h : ∀ w w', iprop(sigS A K c (above 11) ∗ Fr) ⊢ Q ⟨w, w'⟩) :
    iprop(sigS A K c (above 5) ∗ Fr) ⊢ W c (at' k0_part2 c v (SemArray.scalar (sig.barrier 0 rfl)) w w') Q := by
  unfold at'; rw [k0_part2_eq_skeleton]; unfold k0_part2_skel
  simp only [semSignalWord, semWaitWord, Prog.lift, Prog.bind_op, Prog.bind_ret, Prog.pure_eq_ret, wp_deviceId]
  refine signal_step A K 5 (by decide) (Fin.ext (k0_dev6_eq c)) ?_
  refine signal_step A K 6 (by decide) (Fin.ext (k0_dev7_eq c)) ?_
  refine signal_step A K 7 (by decide) (Fin.ext (k0_dev8_eq c)) ?_
  refine signal_step A K 8 (by decide) (Fin.ext (k0_dev9_eq c)) ?_
  refine signal_step A K 9 (by decide) (Fin.ext (k0_dev10_eq c)) ?_
  refine signal_step A K 10 (by decide) (Fin.ext (k0_dev11_eq c)) ?_
  exact finish (h _ _)

theorem part3 {Q} {Fr : sProp 𝕄} {v w w' : BitVec 32} (hx : Holds Fr (xP c (A c))) (hr : Holds Fr (rwP c (A c)))
    (h : iprop(sigS A K c (above 15) ∗ Fr) ⊢ Q (k0_pay1 (A c).x (A c).rw)) :
    iprop(sigS A K c (above 11) ∗ Fr) ⊢ W c (at' k0_part3 c v (SemArray.scalar (sig.barrier 0 rfl)) w w') Q := by
  unfold at'; rw [k0_part3_eq_skeleton]; unfold k0_part3_skel
  simp only [semSignalWord, semWaitWord, Prog.lift, Prog.bind_op, Prog.bind_ret, Prog.pure_eq_ret, wp_deviceId]
  refine signal_step A K 11 (by decide) (Fin.ext (k0_dev12_eq c)) ?_
  refine signal_step A K 12 (by decide) (Fin.ext (k0_dev13_eq c)) ?_
  refine signal_step A K 13 (by decide) (Fin.ext (k0_dev14_eq c)) ?_
  refine signal_step A K 14 (by decide) (Fin.ext (k0_dev15_eq c)) ?_
  refine load_step (Finset.subset_univ _) (holds_right hx) (Memref.readAt_unit_zero (Elt F) cc0_stg0_0 hz2 _ _) ?_
  refine load_step (Finset.subset_univ _) (holds_right hr) (Memref.readAt_unit_zero (Elt F) cc0_stg1_0 hz2 _ _) ?_
  exact finish h

theorem part4 {Q} {S : sProp 𝕄} (hi : Holds S (ixP c (A c))) (hx : Holds S (xP c (A c))) (he : Holds S (ewP c (A c))) (hs : Holds S (sAny c))
    {v : FVec F S256x32 .f32} (h : S ⊢ Q ⟨k0_pay4 (pos c) v (A c).ix, k0_pay5 (pos c) v (A c).ix, k0_pay6 (A c).x, k0_pay7 (ew0 (A c)), k0_pay8 (ew1 (A c)),
      k0_pay9 (pos c) v (A c).ix (A c).x (ew0 (A c)) (ew1 (A c))⟩) :
    S ⊢ W c (at' k0_part4 (pos c) v) Q := by
  unfold at'; rw [k0_part4_eq_skeleton]; unfold k0_part4_skel
  simp only [semSignalWord, semWaitWord, Prog.lift, Prog.bind_op, Prog.bind_ret, Prog.pure_eq_ret, wp_deviceId]
  refine load_step (Finset.subset_univ _) hi (Memref.readAt_unit_zero (Elt F) cc0_stg2_0 hz2 _ _) ?_
  refine load_step (Finset.subset_univ _) hx (Memref.readAt_unit_zero (Elt F) cc0_stg0_0 hz2 _ _) ?_
  refine load_step (Finset.subset_univ _) he (v := ew0 (A c)) rfl ?_
  refine load_step (Finset.subset_univ _) he (v := ew1 (A c)) rfl ?_
  refine load_any (Finset.subset_univ _) hs fun _ => ?_
  exact finish h

end Cert.Moe

end
-- ==== Proof.Sends.lean ====
/-
# The parts of the kernel that send

The upper half of the send buffer is stored, the barrier waited for, and the blocks for the first eight devices sent;
then the lower half is stored and the blocks for the other eight sent.
-/
module

public import proofs.«01_k».proof.Proof.Signals

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Args F) (K : Dev nD × CI → ℕ) {c : Dev nD}

/-! ## Which sends each half makes -/

theorem k0_cond1_low : ∀ c : Dev nD, k0_cond1 c = 1#1 ↔ low (ahead c 1) := by decide +kernel
theorem k0_cond2_low : ∀ c : Dev nD, k0_cond2 c = 1#1 ↔ low (ahead c 2) := by decide +kernel
theorem k0_cond3_low : ∀ c : Dev nD, k0_cond3 c = 1#1 ↔ low (ahead c 3) := by decide +kernel
theorem k0_cond4_low : ∀ c : Dev nD, k0_cond4 c = 1#1 ↔ low (ahead c 4) := by decide +kernel
theorem k0_cond5_low : ∀ c : Dev nD, k0_cond5 c = 1#1 ↔ low (ahead c 5) := by decide +kernel
theorem k0_cond6_low : ∀ c : Dev nD, k0_cond6 c = 1#1 ↔ low (ahead c 6) := by decide +kernel
theorem k0_cond7_low : ∀ c : Dev nD, k0_cond7 c = 1#1 ↔ low (ahead c 7) := by decide +kernel
theorem k0_cond8_low : ∀ c : Dev nD, k0_cond8 c = 1#1 ↔ low (ahead c 8) := by decide +kernel
theorem k0_cond9_low : ∀ c : Dev nD, k0_cond9 c = 1#1 ↔ low (ahead c 9) := by decide +kernel
theorem k0_cond10_low : ∀ c : Dev nD, k0_cond10 c = 1#1 ↔ low (ahead c 10) := by decide +kernel
theorem k0_cond11_low : ∀ c : Dev nD, k0_cond11 c = 1#1 ↔ low (ahead c 11) := by decide +kernel
theorem k0_cond12_low : ∀ c : Dev nD, k0_cond12 c = 1#1 ↔ low (ahead c 12) := by decide +kernel
theorem k0_cond13_low : ∀ c : Dev nD, k0_cond13 c = 1#1 ↔ low (ahead c 13) := by decide +kernel
theorem k0_cond14_low : ∀ c : Dev nD, k0_cond14 c = 1#1 ↔ low (ahead c 14) := by decide +kernel
theorem k0_cond15_low : ∀ c : Dev nD, k0_cond15 c = 1#1 ↔ low (ahead c 15) := by decide +kernel
theorem k0_cond16_low : ∀ c : Dev nD, k0_cond16 c = 1#1 ↔ ¬ low (ahead c 1) := by decide +kernel
theorem k0_cond17_low : ∀ c : Dev nD, k0_cond17 c = 1#1 ↔ ¬ low (ahead c 2) := by decide +kernel
theorem k0_cond18_low : ∀ c : Dev nD, k0_cond18 c = 1#1 ↔ ¬ low (ahead c 3) := by decide +kernel
theorem k0_cond19_low : ∀ c : Dev nD, k0_cond19 c = 1#1 ↔ ¬ low (ahead c 4) := by decide +kernel
theorem k0_cond20_low : ∀ c : Dev nD, k0_cond20 c = 1#1 ↔ ¬ low (ahead c 5) := by decide +kernel
theorem k0_cond21_low : ∀ c : Dev nD, k0_cond21 c = 1#1 ↔ ¬ low (ahead c 6) := by decide +kernel
theorem k0_cond22_low : ∀ c : Dev nD, k0_cond22 c = 1#1 ↔ ¬ low (ahead c 7) := by decide +kernel
theorem k0_cond23_low : ∀ c : Dev nD, k0_cond23 c = 1#1 ↔ ¬ low (ahead c 8) := by decide +kernel
theorem k0_cond24_low : ∀ c : Dev nD, k0_cond24 c = 1#1 ↔ ¬ low (ahead c 9) := by decide +kernel
theorem k0_cond25_low : ∀ c : Dev nD, k0_cond25 c = 1#1 ↔ ¬ low (ahead c 10) := by decide +kernel
theorem k0_cond26_low : ∀ c : Dev nD, k0_cond26 c = 1#1 ↔ ¬ low (ahead c 11) := by decide +kernel
theorem k0_cond27_low : ∀ c : Dev nD, k0_cond27 c = 1#1 ↔ ¬ low (ahead c 12) := by decide +kernel
theorem k0_cond28_low : ∀ c : Dev nD, k0_cond28 c = 1#1 ↔ ¬ low (ahead c 13) := by decide +kernel
theorem k0_cond29_low : ∀ c : Dev nD, k0_cond29 c = 1#1 ↔ ¬ low (ahead c 14) := by decide +kernel
theorem k0_cond30_low : ∀ c : Dev nD, k0_cond30 c = 1#1 ↔ ¬ low (ahead c 15) := by decide +kernel

/-- While the upper half is sent, up to the offset `i`: the sends left, and the blocks held. -/
def R0 (c : Dev nD) (i : ℕ) : Finset (Fin 16) := offs.filter fun o => ¬ (low (ahead c o) ∧ o.val ≤ i)
def B0 (c : Dev nD) (i : ℕ) : Finset (Fin 16) := Finset.univ.filter fun o => low (ahead c o) ∧ (i < o.val ∨ o = 0)
/-- While the lower half is sent. -/
def R1 (c : Dev nD) (i : ℕ) : Finset (Fin 16) := offs.filter fun o => ¬ low (ahead c o) ∧ i < o.val
def B1 (c : Dev nD) (i : ℕ) : Finset (Fin 16) := Finset.univ.filter fun o => (¬ low (ahead c o) ∧ i < o.val) ∨ o = 0

theorem R0_zero : ∀ c : Dev nD, R0 c 0 = offs := by unfold R0 ahead; decide +kernel
theorem R0_end : ∀ c : Dev nD, R0 c 15 = R1 c 0 := by unfold R0 R1 ahead; decide +kernel
theorem R1_end : ∀ c : Dev nD, R1 c 15 = ∅ := by unfold R1 ahead; decide +kernel
theorem B0_zero : ∀ c : Dev nD, B0 c 0 = Finset.univ.filter fun o => low (ahead c o) := by unfold B0 ahead; decide +kernel
theorem B0_end : ∀ c : Dev nD, B1 c 0 = B0 c 15 ∪ Finset.univ.filter fun o => ¬ low (ahead c o) := by unfold B0 B1 ahead; decide +kernel
theorem B0_disj (c : Dev nD) : Disjoint (B0 c 15) (Finset.univ.filter fun o => ¬ low (ahead c o)) :=
  Finset.disjoint_left.mpr fun o h h' => (Finset.mem_filter.mp h').2 (Finset.mem_filter.mp h).2.1
theorem B1_end : ∀ c : Dev nD, B1 c 15 = {0} := by unfold B1 ahead; decide +kernel

theorem sets0 : ∀ c o : Fin 16, o ≠ 0 → (low (ahead c o) → o ∈ R0 c (o.val - 1) ∧ o ∈ B0 c (o.val - 1) ∧ R0 c o.val = (R0 c (o.val - 1)).erase o ∧ B0 c o.val = (B0 c (o.val - 1)).erase o)
    ∧ (¬ low (ahead c o) → R0 c o.val = R0 c (o.val - 1) ∧ B0 c o.val = B0 c (o.val - 1)) := by unfold R0 B0 ahead; decide +kernel
theorem sets1 : ∀ c o : Fin 16, o ≠ 0 → (¬ low (ahead c o) → o ∈ R1 c (o.val - 1) ∧ o ∈ B1 c (o.val - 1) ∧ R1 c o.val = (R1 c (o.val - 1)).erase o ∧ B1 c o.val = (B1 c (o.val - 1)).erase o)
    ∧ (¬ ¬ low (ahead c o) → R1 c o.val = R1 c (o.val - 1) ∧ B1 c o.val = B1 c (o.val - 1)) := by unfold R1 B1 ahead; decide +kernel

theorem send0_step {α : Type} {Q : α → sProp 𝕄} {Fr : sProp 𝕄} (i : ℕ) (hi : i + 1 < 16)
    {cnd : Prop} [Decidable cnd] (hc : cnd ↔ low (ahead c ⟨i + 1, hi⟩)) {dev : ℕ} {off : Fin 2 → ℕ}
    (hdev : dev = (ahead c ⟨i + 1, hi⟩).val) (hoff : off = ![16 * (ahead c ⟨i + 1, hi⟩).val, 0])
    {hlt : cnd → dev < nD} {hinb : cnd → ∀ a, off a + S16x256.size a ≤ S256x256.size a}
    {hs1 hs2 : ∀ a, (![i + 1] : Fin 1 → ℕ) a + S1.size a ≤ S16.size a} {hsl : ∀ a, (![i + 1, 0, 0] : Fin 3 → ℕ) a + S1x16x256.size a ≤ S16x16x256.size a}
    {hsc : ∀ h : cnd, (slotM ![i + 1, 0, 0] hsl).view.ref.isScScratch = false}
    {hsrc : ∀ h : cnd, (rowsM off (hinb h)).view.WordExact} {hdst : ∀ h : cnd, (slotM ![i + 1, 0, 0] hsl).view.WordExact}
    {hsem : ∀ h : cnd, DmaTarget.Typed .vmem (.dma (recvS ![i + 1] hs2)) (.remote (Dev.tc (⟨dev, hlt h⟩ : Dev nD) : Thread nD τ) (slotM ![i + 1, 0, 0] hsl) (.dma (sendS ![i + 1] hs1)) (hsc h))}
    {k : Prog (TpuEff nD τ sig (Elt F) Λ₀ .tc) α}
    (h : iprop(sendSt A K (c := c) (R0 c (i + 1)) ∗ blks A (c := c) (B0 c (i + 1)) ∗ Fr) ⊢ W c k Q) :
    iprop(sendSt A K (c := c) (R0 c i) ∗ blks A (c := c) (B0 c i) ∗ Fr)
      ⊢ W c (dite cnd (fun h => .op (.enqueueDma (rowsM off (hinb h)) (.remote (Dev.tc (⟨dev, hlt h⟩ : Dev nD) : Thread nD τ) (slotM ![i + 1, 0, 0] hsl)
          (.dma (sendS ![i + 1] hs1)) (hsc h)) (.dma (recvS ![i + 1] hs2)) (hsrc h) (hdst h) (hsem h)) (fun _ => k)) (fun _ => k)) Q :=
  send_step A K (i + 1) hi (succ_ne i hi) hdev hoff (fun hx => (sets0 c ⟨i + 1, hi⟩ (succ_ne i hi)).1 (hc.mp hx))
    (fun hx => (sets0 c ⟨i + 1, hi⟩ (succ_ne i hi)).2 fun h' => hx (hc.mpr h')) h

theorem send1_step {α : Type} {Q : α → sProp 𝕄} {Fr : sProp 𝕄} (i : ℕ) (hi : i + 1 < 16)
    {cnd : Prop} [Decidable cnd] (hc : cnd ↔ ¬ low (ahead c ⟨i + 1, hi⟩)) {dev : ℕ} {off : Fin 2 → ℕ}
    (hdev : dev = (ahead c ⟨i + 1, hi⟩).val) (hoff : off = ![16 * (ahead c ⟨i + 1, hi⟩).val, 0])
    {hlt : cnd → dev < nD} {hinb : cnd → ∀ a, off a + S16x256.size a ≤ S256x256.size a}
    {hs1 hs2 : ∀ a, (![i + 1] : Fin 1 → ℕ) a + S1.size a ≤ S16.size a} {hsl : ∀ a, (![i + 1, 0, 0] : Fin 3 → ℕ) a + S1x16x256.size a ≤ S16x16x256.size a}
    {hsc : ∀ h : cnd, (slotM ![i + 1, 0, 0] hsl).view.ref.isScScratch = false}
    {hsrc : ∀ h : cnd, (rowsM off (hinb h)).view.WordExact} {hdst : ∀ h : cnd, (slotM ![i + 1, 0, 0] hsl).view.WordExact}
    {hsem : ∀ h : cnd, DmaTarget.Typed .vmem (.dma (recvS ![i + 1] hs2)) (.remote (Dev.tc (⟨dev, hlt h⟩ : Dev nD) : Thread nD τ) (slotM ![i + 1, 0, 0] hsl) (.dma (sendS ![i + 1] hs1)) (hsc h))}
    {k : Prog (TpuEff nD τ sig (Elt F) Λ₀ .tc) α}
    (h : iprop(sendSt A K (c := c) (R1 c (i + 1)) ∗ blks A (c := c) (B1 c (i + 1)) ∗ Fr) ⊢ W c k Q) :
    iprop(sendSt A K (c := c) (R1 c i) ∗ blks A (c := c) (B1 c i) ∗ Fr)
      ⊢ W c (dite cnd (fun h => .op (.enqueueDma (rowsM off (hinb h)) (.remote (Dev.tc (⟨dev, hlt h⟩ : Dev nD) : Thread nD τ) (slotM ![i + 1, 0, 0] hsl)
          (.dma (sendS ![i + 1] hs1)) (hsc h)) (.dma (recvS ![i + 1] hs2)) (hsrc h) (hdst h) (hsem h)) (fun _ => k)) (fun _ => k)) Q :=
  send_step A K (i + 1) hi (succ_ne i hi) hdev hoff (fun hx => (sets1 c ⟨i + 1, hi⟩ (succ_ne i hi)).1 (hc.mp hx))
    (fun hx => (sets1 c ⟨i + 1, hi⟩ (succ_ne i hi)).2 fun h' => hx (hc.mpr h')) h

/-! ## The two stores -/

/-- The lower half of the send buffer, at some contents. -/
def lowerAny (c : Dev nD) : sProp 𝕄 := iprop(∃ f : Buf (Elt F) (sM.view.loc (c : Thread nD τ)), sM.view.loc (c : Thread nD τ) ↦[halfR1.set]{fullShare} f)

theorem blocks_upper (c : Dev nD) : (Finset.univ.filter fun o => low (ahead c o)).biUnion (fun o => rowsE (ahead c o)) = halfR0.set := by
  rw [← halfR0_cover]
  ext i
  simp only [Finset.mem_biUnion, Finset.mem_filter, Finset.mem_univ, true_and]
  exact ⟨fun ⟨o, h, hi⟩ => ⟨ahead c o, h, hi⟩, fun ⟨d, h, hi⟩ => ⟨(d : Fin 16) - c, by rw [ahead_sub]; exact h, by rw [ahead_sub]; exact hi⟩⟩
theorem blocks_lower (c : Dev nD) : (Finset.univ.filter fun o => ¬ low (ahead c o)).biUnion (fun o => rowsE (ahead c o)) = halfR1.set := by
  rw [← halfR1_cover]
  ext i
  simp only [Finset.mem_biUnion, Finset.mem_filter, Finset.mem_univ, true_and]
  exact ⟨fun ⟨o, h, hi⟩ => ⟨ahead c o, h, hi⟩, fun ⟨d, h, hi⟩ => ⟨(d : Fin 16) - c, by rw [ahead_sub]; exact h, by rw [ahead_sub]; exact hi⟩⟩

theorem blocks_apart (c : Dev nD) (S : Finset (Fin 16)) : ∀ o ∈ S, ∀ o' ∈ S, o ≠ o' → Disjoint (rowsE (ahead c o)) (rowsE (ahead c o')) :=
  fun o _ o' _ h => rowsE_disjoint _ _ fun e => h (ahead_inj_right c e)

theorem sM_setOn (r : Rect S256x256) : sM.view.setOn r.toLoadRect.set = r.set :=
  (View.set_slice sM.view r).symm.trans (View.set_slice_whole _ _)

theorem halves : halfR0.set ∪ halfR1.set = Finset.univ := by
  ext i; simp only [Finset.mem_union, mem_halfR0, mem_halfR1, Finset.mem_univ, iff_true]; omega
theorem halves_disj : Disjoint halfR0.set halfR1.set :=
  Finset.disjoint_left.mpr fun i h h' => by have := mem_halfR0.mp h; have := mem_halfR1.mp h'; omega

/-- The buffer after the first store: the blocks for the first eight devices, and the rest. -/
theorem upper_split (f : Buf (Elt F) ((sM.access halfR0).loc (c : Thread nD τ))) (w : Vec F S128x256 .bf16) (hw : w = upper c (A c)) :
    ((sM.access halfR0).loc (c : Thread nD τ) ↦{fullShare} ((sM.access halfR0).write (Elt F) f w Finset.univ) : sProp 𝕄)
      ⊢ iprop(blks A (c := c) (B0 c 0) ∗ lowerAny c) := by
  subst hw
  show (sM.view.loc (c : Thread nD τ) ↦[Finset.univ]{fullShare} _ : sProp 𝕄) ⊢ _
  rw [← halves]
  refine (pointsTo_union halves_disj).1.trans ?_
  have h0 : (sM.view.loc (c : Thread nD τ) ↦[halfR0.set]{fullShare} ((sM.access halfR0).write (Elt F) f (upper c (A c)) Finset.univ) : sProp 𝕄)
      = blks A (c := c) (B0 c 0) := by
    rw [pointsTo_congr (fun i hi => upper_stored c (A c) f hi), B0_zero]
    unfold blks blk
    rw [← blocks_upper c]
    exact pointsTo_biUnion _ _ (blocks_apart c _)
  rw [h0]
  unfold lowerAny
  iintro ⟨H, H'⟩
  isplitl [H]; · iexact H
  iexists ((sM.access halfR0).write (Elt F) f (upper c (A c)) Finset.univ); iexact H'

/-- The lower half after the second store: the blocks for the other eight devices. -/
theorem lower_split (f : Buf (Elt F) ((sM.access halfR1).loc (c : Thread nD τ))) (w : Vec F S128x256 .bf16) (hw : w = lower c (A c)) :
    ((sM.access halfR1).loc (c : Thread nD τ) ↦[halfR1.set]{fullShare} ((sM.access halfR1).write (Elt F) f w Finset.univ) : sProp 𝕄)
      = blks A (c := c) (Finset.univ.filter fun o => ¬ low (ahead c o)) := by
  subst hw
  show (sM.view.loc (c : Thread nD τ) ↦[halfR1.set]{fullShare} _ : sProp 𝕄) = _
  rw [pointsTo_congr (fun i hi => lower_stored c (A c) f hi)]
  unfold blks blk
  rw [← blocks_lower c]
  exact pointsTo_biUnion _ _ (blocks_apart c _)

theorem blks_join (c : Dev nD) : blks A (c := c) (B1 c 0) = iprop(blks A (c := c) (B0 c 15) ∗ blks A (c := c) (Finset.univ.filter fun o => ¬ low (ahead c o))) := by
  unfold blks; rw [B0_end, bigSep_union (B0_disj c)]; rfl

/-! ## The parts -/

-- the conditions are used only through the facts above
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30

theorem part5 {Q} {Fr : sProp 𝕄}
    (h : ∀ a b d e f, iprop(sendSt A K (c := c) (R0 c 3) ∗ blks A (c := c) (B0 c 3) ∗ (lowerAny c ∗ semVal (barCell c) 0 ∗ Fr)) ⊢ Q ⟨a, b, d, e, f⟩) :
    iprop(sigS A K c (above 15) ∗ barS₀ (c := c) ∗ sAny c ∗ Fr)
      ⊢ W c (at' k0_part5 c (pos c) (SemArray.scalar (sig.barrier 0 rfl)) (k0_pay9 (pos c) (k0_pay1 (A c).x (A c).rw) (A c).ix (A c).x (ew0 (A c)) (ew1 (A c)))) Q := by
  unfold at'; rw [k0_part5_eq_skeleton]; unfold k0_part5_skel
  simp only [semSignalWord, semWaitWord, Prog.lift, Prog.bind_op, Prog.bind_ret, Prog.pure_eq_ret, wp_deviceId]
  refine store_step (S' := iprop(sigS A K c (above 15) ∗ barS₀ (c := c) ∗ blks A (c := c) (B0 c 0) ∗ lowerAny c ∗ Fr)) (I := Finset.univ) (Finset.subset_univ _) ?_ ?_
  · unfold sAny
    iintro ⟨Hs, Hb, ⟨%f, Hf⟩, HF⟩
    iexists f
    isplitl [Hf]; · iexact Hf
    iintro Hf
    isplitl [Hs]; · iexact Hs
    isplitl [Hb]; · iexact Hb
    ihave Hf := (upper_split A f (k0_pay10 (k0_pay9 (pos c) (k0_pay1 (A c).x (A c).rw) (A c).ix (A c).x (ew0 (A c)) (ew1 (A c)))) rfl) $$ Hf
    icases Hf with ⟨Hu, Hl⟩
    isplitl [Hu]; · iexact Hu
    isplitl [Hl]; · iexact Hl
    iexact HF
  refine barrier_step A K ?_
  have hx : iprop(sendSt A K (c := c) offs ∗ semVal (barCell c) 0 ∗ blks A (c := c) (B0 c 0) ∗ lowerAny c ∗ Fr)
      ⊢ iprop(sendSt A K (c := c) (R0 c 0) ∗ blks A (c := c) (B0 c 0) ∗ (lowerAny c ∗ semVal (barCell c) 0 ∗ Fr)) := by
    rw [R0_zero]
    iintro ⟨H1, H2, H3, H4, H5⟩
    isplitl [H1]; · iexact H1
    isplitl [H3]; · iexact H3
    isplitl [H4]; · iexact H4
    isplitl [H2]; · iexact H2
    iexact H5
  refine hx.trans ?_
  refine send0_step A K 0 (by decide) (k0_cond1_low c) (k0_dev16_eq c) (k0_off1_eq c) ?_
  refine send0_step A K 1 (by decide) (k0_cond2_low c) (k0_dev17_eq c) (k0_off2_eq c) ?_
  refine send0_step A K 2 (by decide) (k0_cond3_low c) (k0_dev18_eq c) (k0_off3_eq c) ?_
  exact finish (h _ _ _ _ _)

theorem part6 {Q} {Fr : sProp 𝕄} {v w w' : BitVec 32}
    (h : ∀ a b d e f, iprop(sendSt A K (c := c) (R0 c 7) ∗ blks A (c := c) (B0 c 7) ∗ Fr) ⊢ Q ⟨a, b, d, e, f⟩) :
    iprop(sendSt A K (c := c) (R0 c 3) ∗ blks A (c := c) (B0 c 3) ∗ Fr) ⊢ W c (at' k0_part6 c v w w') Q := by
  unfold at'; rw [k0_part6_eq_skeleton]; unfold k0_part6_skel
  simp only [semSignalWord, semWaitWord, Prog.lift, Prog.bind_op, Prog.bind_ret, Prog.pure_eq_ret, wp_deviceId]
  refine send0_step A K 3 (by decide) (k0_cond4_low c) (k0_dev19_eq c) (k0_off4_eq c) ?_
  refine send0_step A K 4 (by decide) (k0_cond5_low c) (k0_dev20_eq c) (k0_off5_eq c) ?_
  refine send0_step A K 5 (by decide) (k0_cond6_low c) (k0_dev21_eq c) (k0_off6_eq c) ?_
  refine send0_step A K 6 (by decide) (k0_cond7_low c) (k0_dev22_eq c) (k0_off7_eq c) ?_
  exact finish (h _ _ _ _ _)

theorem part7 {Q} {Fr : sProp 𝕄} {v w w' : BitVec 32}
    (h : ∀ a b d e f, iprop(sendSt A K (c := c) (R0 c 11) ∗ blks A (c := c) (B0 c 11) ∗ Fr) ⊢ Q ⟨a, b, d, e, f⟩) :
    iprop(sendSt A K (c := c) (R0 c 7) ∗ blks A (c := c) (B0 c 7) ∗ Fr) ⊢ W c (at' k0_part7 c v w w') Q := by
  unfold at'; rw [k0_part7_eq_skeleton]; unfold k0_part7_skel
  simp only [semSignalWord, semWaitWord, Prog.lift, Prog.bind_op, Prog.bind_ret, Prog.pure_eq_ret, wp_deviceId]
  refine send0_step A K 7 (by decide) (k0_cond8_low c) (k0_dev23_eq c) (k0_off8_eq c) ?_
  refine send0_step A K 8 (by decide) (k0_cond9_low c) (k0_dev24_eq c) (k0_off9_eq c) ?_
  refine send0_step A K 9 (by decide) (k0_cond10_low c) (k0_dev25_eq c) (k0_off10_eq c) ?_
  refine send0_step A K 10 (by decide) (k0_cond11_low c) (k0_dev26_eq c) (k0_off11_eq c) ?_
  exact finish (h _ _ _ _ _)

theorem part8 {Q} {Fr : sProp 𝕄} {v w w' : BitVec 32} {p q : FVec F S256x1 .f32} {x : FVec F S256x128 .f32}
    (h : ∀ a b d, iprop(sendSt A K (c := c) (R0 c 15) ∗ blks A (c := c) (B0 c 15) ∗ Fr) ⊢ Q ⟨a, b, d, k0_pay12 p x, k0_pay13 q x, constant S128x256 .f32 0x00000000#32⟩) :
    iprop(sendSt A K (c := c) (R0 c 11) ∗ blks A (c := c) (B0 c 11) ∗ Fr) ⊢ W c (at' k0_part8 c v p q x w w') Q := by
  unfold at'; rw [k0_part8_eq_skeleton]; unfold k0_part8_skel
  simp only [semSignalWord, semWaitWord, Prog.lift, Prog.bind_op, Prog.bind_ret, Prog.pure_eq_ret, wp_deviceId]
  refine send0_step A K 11 (by decide) (k0_cond12_low c) (k0_dev27_eq c) (k0_off12_eq c) ?_
  refine send0_step A K 12 (by decide) (k0_cond13_low c) (k0_dev28_eq c) (k0_off13_eq c) ?_
  refine send0_step A K 13 (by decide) (k0_cond14_low c) (k0_dev29_eq c) (k0_off14_eq c) ?_
  refine send0_step A K 14 (by decide) (k0_cond15_low c) (k0_dev30_eq c) (k0_off15_eq c) ?_
  exact finish (h _ _ _)

theorem part9 {Q} {Fr : sProp 𝕄} (h : ∀ a, iprop(sendSt A K (c := c) (R1 c 3) ∗ blks A (c := c) (B1 c 3) ∗ Fr) ⊢ Q a) :
    iprop(sendSt A K (c := c) (R0 c 15) ∗ blks A (c := c) (B0 c 15) ∗ (lowerAny c ∗ Fr))
      ⊢ W c (at' k0_part9 c (pos c) (k0_pay7 (ew0 (A c))) (k0_pay8 (ew1 (A c))) (k0_pay12 (k0_pay4 (pos c) (k0_pay1 (A c).x (A c).rw) (A c).ix) (k0_pay6 (A c).x))
        (k0_pay13 (k0_pay5 (pos c) (k0_pay1 (A c).x (A c).rw) (A c).ix) (k0_pay6 (A c).x)) (constant S128x256 .f32 0x00000000#32)) Q := by
  unfold at'; rw [k0_part9_eq_skeleton]; unfold k0_part9_skel
  simp only [semSignalWord, semWaitWord, Prog.lift, Prog.bind_op, Prog.bind_ret, Prog.pure_eq_ret, wp_deviceId]
  refine load_any (m := sM) (c := c) (I := halfR1.set) (sM_setOn halfR1).subset (holds_right (holds_right (holds_left (holds_self (lowerAny c))))) fun _ => ?_
  refine store_step (m := sM) (c := c) (r := halfR1) (S' := iprop(sendSt A K (c := c) (R1 c 0) ∗ blks A (c := c) (B1 c 0) ∗ Fr)) (I := halfR1.set) (View.set_slice_whole _ _).subset ?_ ?_
  · unfold lowerAny
    rw [R0_end, blks_join]
    iintro ⟨Hs, Hb, ⟨%f, Hf⟩, HF⟩
    iexists f
    isplitl [Hf]; · iexact Hf
    iintro Hf
    isplitl [Hs]; · iexact Hs
    ihave Hf := (Entails.of_eq (lower_split A f (k0_pay14 (k0_pay7 (ew0 (A c))) (k0_pay8 (ew1 (A c)))
      (k0_pay12 (k0_pay4 (pos c) (k0_pay1 (A c).x (A c).rw) (A c).ix) (k0_pay6 (A c).x))
      (k0_pay13 (k0_pay5 (pos c) (k0_pay1 (A c).x (A c).rw) (A c).ix) (k0_pay6 (A c).x)) (constant S128x256 .f32 0x00000000#32)) rfl)) $$ Hf
    isplitr [HF]
    · isplitl [Hb]; · iexact Hb
      iexact Hf
    iexact HF
  refine send1_step A K 0 (by decide) (k0_cond16_low c) (k0_dev31_eq c) (k0_off16_eq c) ?_
  refine send1_step A K 1 (by decide) (k0_cond17_low c) (k0_dev32_eq c) (k0_off17_eq c) ?_
  refine send1_step A K 2 (by decide) (k0_cond18_low c) (k0_dev33_eq c) (k0_off18_eq c) ?_
  exact finish (h _)

theorem part10 {Q} {Fr : sProp 𝕄} {v w : BitVec 32}
    (h : ∀ a, iprop(sendSt A K (c := c) (R1 c 7) ∗ blks A (c := c) (B1 c 7) ∗ Fr) ⊢ Q a) :
    iprop(sendSt A K (c := c) (R1 c 3) ∗ blks A (c := c) (B1 c 3) ∗ Fr) ⊢ W c (at' k0_part10 c v w) Q := by
  unfold at'; rw [k0_part10_eq_skeleton]; unfold k0_part10_skel
  simp only [semSignalWord, semWaitWord, Prog.lift, Prog.bind_op, Prog.bind_ret, Prog.pure_eq_ret, wp_deviceId]
  refine send1_step A K 3 (by decide) (k0_cond19_low c) (k0_dev34_eq c) (k0_off19_eq c) ?_
  refine send1_step A K 4 (by decide) (k0_cond20_low c) (k0_dev35_eq c) (k0_off20_eq c) ?_
  refine send1_step A K 5 (by decide) (k0_cond21_low c) (k0_dev36_eq c) (k0_off21_eq c) ?_
  refine send1_step A K 6 (by decide) (k0_cond22_low c) (k0_dev37_eq c) (k0_off22_eq c) ?_
  exact finish (h _)

theorem part11 {Q} {Fr : sProp 𝕄} {v w : BitVec 32}
    (h : ∀ a, iprop(sendSt A K (c := c) (R1 c 11) ∗ blks A (c := c) (B1 c 11) ∗ Fr) ⊢ Q a) :
    iprop(sendSt A K (c := c) (R1 c 7) ∗ blks A (c := c) (B1 c 7) ∗ Fr) ⊢ W c (at' k0_part11 c v w) Q := by
  unfold at'; rw [k0_part11_eq_skeleton]; unfold k0_part11_skel
  simp only [semSignalWord, semWaitWord, Prog.lift, Prog.bind_op, Prog.bind_ret, Prog.pure_eq_ret, wp_deviceId]
  refine send1_step A K 7 (by decide) (k0_cond23_low c) (k0_dev38_eq c) (k0_off23_eq c) ?_
  refine send1_step A K 8 (by decide) (k0_cond24_low c) (k0_dev39_eq c) (k0_off24_eq c) ?_
  refine send1_step A K 9 (by decide) (k0_cond25_low c) (k0_dev40_eq c) (k0_off25_eq c) ?_
  refine send1_step A K 10 (by decide) (k0_cond26_low c) (k0_dev41_eq c) (k0_off26_eq c) ?_
  exact finish (h _)

theorem part12 {Q} {Fr : sProp 𝕄} {v w : BitVec 32}
    (h :  iprop(sendSt A K (c := c) (R1 c 15) ∗ blks A (c := c) (B1 c 15) ∗ Fr) ⊢ Q ⟨⟩) :
    iprop(sendSt A K (c := c) (R1 c 11) ∗ blks A (c := c) (B1 c 11) ∗ Fr) ⊢ W c (at' k0_part12 c v w) Q := by
  unfold at'; rw [k0_part12_eq_skeleton]; unfold k0_part12_skel
  simp only [semSignalWord, semWaitWord, Prog.lift, Prog.bind_op, Prog.bind_ret, Prog.pure_eq_ret, wp_deviceId]
  refine send1_step A K 11 (by decide) (k0_cond27_low c) (k0_dev42_eq c) (k0_off27_eq c) ?_
  refine send1_step A K 12 (by decide) (k0_cond28_low c) (k0_dev43_eq c) (k0_off28_eq c) ?_
  refine send1_step A K 13 (by decide) (k0_cond29_low c) (k0_dev44_eq c) (k0_off29_eq c) ?_
  refine send1_step A K 14 (by decide) (k0_cond30_low c) (k0_dev45_eq c) (k0_off30_eq c) ?_
  exact finish h

end Cert.Moe

end
-- ==== Proof.Waits.lean ====
/-
# The parts of the kernel that wait

The device waits for the fifteen blocks sent to it, reads them with its own block and its rows of the tokens, stores its
block of the result, and waits for its own blocks to come back.
-/
module

public import proofs.«01_k».proof.Proof.Sends

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Args F) (K : Dev nD × CI → ℕ) {c : Dev nD}

/-- The device's block of the result, at some contents and at known ones. -/
def outAny (c : Dev nD) : sProp 𝕄 :=
  iprop(∃ f : Buf (Elt F) ((Memref.whole cc0_stg5_0 : Memref sig .tc .vmem S16x256 .f32).view.loc (c : Thread nD τ)),
    (Memref.whole cc0_stg5_0 : Memref sig .tc .vmem S16x256 .f32).view.loc (c : Thread nD τ) ↦{fullShare} f)
def outP (c : Dev nD) (v : (cc0_stg5_0 : Ref sig .tc).ty.Contents (Elt F)) : sProp 𝕄 :=
  (Memref.whole cc0_stg5_0 : Memref sig .tc .vmem S16x256 .f32).view.loc (c : Thread nD τ) ↦{fullShare} v

theorem outP_stored (c : Dev nD) (f : (cc0_stg5_0 : Ref sig .tc).ty.Contents (Elt F)) :
    (((Memref.whole cc0_stg5_0).access (Rect.unit ![0, 0] ![16, 256] inb_S16x256_S16x256_0_0)).loc (c : Thread nD τ) ↦{fullShare}
      ((Memref.whole cc0_stg5_0).access (Rect.unit ![0, 0] ![16, 256] inb_S16x256_S16x256_0_0)).write (Elt F) f
        (k0_pay16 (k0_pay15 (xRows c (A c)) (A c).sw) (ownRows c (A c)) (arrived A c)) Finset.univ : sProp 𝕄) = outP c (outC A c) := by
  unfold outP
  exact congrArg (fun v => ((Memref.whole cc0_stg5_0 : Memref sig .tc .vmem S16x256 .f32).view.loc (c : Thread nD τ) ↦{fullShare} v : sProp 𝕄))
    (Memref.write_access_unit_zero_univ (Elt F) cc0_stg5_0 hz2 inb_S16x256_S16x256_0_0 f (outC A c))

/-- The slots that are waited for, once all have landed, as one holding. -/
def tailP (c : Dev nD) : sProp 𝕄 := rM.view.loc (c : Thread nD τ) ↦[tailR.set]{fullShare} (recvC A c)

theorem slots_apart : ∀ o ∈ offs, ∀ o' ∈ offs, o ≠ o' → Disjoint (slotE o) (slotE o') := fun o _ o' _ h => slotE_disjoint o o' h

theorem tail_eq (c : Dev nD) : bigSep offs (fun o => slotIn A c o) = tailP A c := by
  unfold tailP slotIn slotAt rLoc
  symm
  rw [← tailR_cover]
  exact pointsTo_biUnion _ _ slots_apart

theorem waited (q : Fin 16 → DmaSem sig) (P : Fin 16 → sProp 𝕄) : waitSt A K (c := c) q P (above 15)
    = iprop(records A K ∗ emp ∗ (bigSep offs P ∗ bigSep offs fun o => semVal ((c : Thread nD τ), .dma (q o)) 0)) := by
  unfold waitSt
  rw [above_last, Finset.sdiff_empty, bigSep_empty, bigSep_sep']; rfl

theorem holds_tail : Holds (waitSt A K (c := c) recvQ (slotIn A c) (above 15)) (tailP A c) := by
  rw [waited, tail_eq]
  exact holds_right (holds_right (holds_left (holds_self _)))

theorem rM_setOn (r : Rect S16x16x256) : rM.view.setOn r.toLoadRect.set = r.set :=
  (View.set_slice rM.view r).symm.trans (View.set_slice_whole _ _)

theorem own_set (c : Dev nD) : (Rect.unit (s := S256x256) (k0_off33 c) S16x256.size (k0_off33_inb c)).set = rowsE (ahead c 0) := by
  ext i
  rw [mem_rowsE, Rect.mem_set_unit, Fin.forall_fin_two, k0_off33_eq]
  have h0 : (i 0).val < 256 := (i 0).isLt
  have h1 : (i 1).val < 256 := (i 1).isLt
  have hc : (ahead c 0).val = c.val := by revert c; decide
  show (16 * c.val ≤ (i 0).val ∧ (i 0).val < 16 * c.val + 16) ∧ (0 ≤ (i 1).val ∧ (i 1).val < 0 + 256) ↔ _
  omega

theorem part13 {Q} {Fr : sProp 𝕄} {v v' v'' : BitVec 32} (hx : Holds Fr (xP c (A c))) (hs : Holds Fr (swP c (A c)))
    (h : iprop(idle (c := c) ∗ waitSt A K (c := c) recvQ (slotIn A c) (above 3) ∗ Fr) ⊢ Q (k0_pay15 (xRows c (A c)) (A c).sw)) :
    iprop(idle (c := c) ∗ waitSt A K (c := c) recvQ (slotIn A c) (above 0) ∗ Fr) ⊢ W c (at' k0_part13 c v v' v'') Q := by
  unfold at'; rw [k0_part13_eq_skeleton]; unfold k0_part13_skel
  simp only [semSignalWord, semWaitWord, Prog.lift, Prog.bind_op, Prog.bind_ret, Prog.pure_eq_ret, wp_deviceId]
  refine load_step (Finset.subset_univ _) (holds_right (holds_right hx)) (v := xRows c (A c)) rfl ?_
  refine load_step (Finset.subset_univ _) (holds_right (holds_right hs)) (Memref.readAt_unit_zero (Elt F) cc0_stg4_0 hz2 _ _) ?_
  refine recv_step A K 0 (by decide) ?_
  refine recv_step A K 1 (by decide) ?_
  refine recv_step A K 2 (by decide) ?_
  exact finish h

theorem part14 {Q} {Fr : sProp 𝕄} {a b d e : BitVec 32} (h : iprop(idle (c := c) ∗ waitSt A K (c := c) recvQ (slotIn A c) (above 6) ∗ Fr) ⊢ Q ⟨⟩) :
    iprop(idle (c := c) ∗ waitSt A K (c := c) recvQ (slotIn A c) (above 3) ∗ Fr) ⊢ W c (at' k0_part14 c a b d e) Q := by
  unfold at'; rw [k0_part14_eq_skeleton]; unfold k0_part14_skel
  simp only [semSignalWord, semWaitWord, Prog.lift, Prog.bind_op, Prog.bind_ret, Prog.pure_eq_ret, wp_deviceId]
  refine recv_step A K 3 (by decide) ?_
  refine recv_step A K 4 (by decide) ?_
  refine recv_step A K 5 (by decide) ?_
  exact finish h

theorem part15 {Q} {Fr : sProp 𝕄} {a b d e : BitVec 32} (h : iprop(idle (c := c) ∗ waitSt A K (c := c) recvQ (slotIn A c) (above 10) ∗ Fr) ⊢ Q ⟨⟩) :
    iprop(idle (c := c) ∗ waitSt A K (c := c) recvQ (slotIn A c) (above 6) ∗ Fr) ⊢ W c (at' k0_part15 c a b d e) Q := by
  unfold at'; rw [k0_part15_eq_skeleton]; unfold k0_part15_skel
  simp only [semSignalWord, semWaitWord, Prog.lift, Prog.bind_op, Prog.bind_ret, Prog.pure_eq_ret, wp_deviceId]
  refine recv_step A K 6 (by decide) ?_
  refine recv_step A K 7 (by decide) ?_
  refine recv_step A K 8 (by decide) ?_
  refine recv_step A K 9 (by decide) ?_
  exact finish h

theorem part16 {Q} {Fr : sProp 𝕄} {a b d e : BitVec 32} (h : ∀ w w', iprop(idle (c := c) ∗ waitSt A K (c := c) recvQ (slotIn A c) (above 14) ∗ Fr) ⊢ Q ⟨w, w'⟩) :
    iprop(idle (c := c) ∗ waitSt A K (c := c) recvQ (slotIn A c) (above 10) ∗ Fr) ⊢ W c (at' k0_part16 c a b d e) Q := by
  unfold at'; rw [k0_part16_eq_skeleton]; unfold k0_part16_skel
  simp only [semSignalWord, semWaitWord, Prog.lift, Prog.bind_op, Prog.bind_ret, Prog.pure_eq_ret, wp_deviceId]
  refine recv_step A K 10 (by decide) ?_
  refine recv_step A K 11 (by decide) ?_
  refine recv_step A K 12 (by decide) ?_
  refine recv_step A K 13 (by decide) ?_
  exact finish (h _ _)

theorem part17 {Q} {Fr : sProp 𝕄} {w w' : BitVec 32}
    (h : iprop(idle (c := c) ∗ waitSt A K (c := c) sendQ (blk A c) (above 2) ∗ (waitSt A K (c := c) recvQ (slotIn A c) (above 15) ∗ blk A c 0 ∗ outP c (outC A c) ∗ Fr)) ⊢ Q ⟨⟩) :
    iprop(idle (c := c) ∗ waitSt A K (c := c) recvQ (slotIn A c) (above 14) ∗ (waitSt A K (c := c) sendQ (blk A c) (above 0) ∗ blk A c 0 ∗ outAny c ∗ Fr))
      ⊢ W c (at' k0_part17 c (pos c) (k0_pay15 (xRows c (A c)) (A c).sw) w w') Q := by
  unfold at'; rw [k0_part17_eq_skeleton]; unfold k0_part17_skel
  simp only [semSignalWord, semWaitWord, Prog.lift, Prog.bind_op, Prog.bind_ret, Prog.pure_eq_ret, wp_deviceId]
  refine recv_step A K 14 (by decide) ?_
  refine load_step (m := sM) (c := c) (I := rowsE (ahead c 0)) ((sM_setOn _).trans (own_set c)).subset
    (holds_right (holds_right (holds_right (holds_left (holds_self (blk A c 0)))))) (v := ownRows c (A c)) rfl ?_
  refine load_step (m := rM) (c := c) (I := tailR.set) (rM_setOn tailR).subset
    (holds_right (holds_left (holds_tail A K))) (v := arrived A c) rfl ?_
  refine load_any (m := (Memref.whole cc0_stg5_0 : Memref sig .tc .vmem S16x256 .f32)) (c := c) (I := Finset.univ) (Finset.subset_univ _)
    (holds_right (holds_right (holds_right (holds_right (holds_left (holds_self (outAny c))))))) fun _ => ?_
  refine store_step (m := (Memref.whole cc0_stg5_0 : Memref sig .tc .vmem S16x256 .f32)) (c := c) (I := Finset.univ)
    (S' := iprop(idle (c := c) ∗ waitSt A K (c := c) sendQ (blk A c) (above 0) ∗ (waitSt A K (c := c) recvQ (slotIn A c) (above 15) ∗ blk A c 0 ∗ outP c (outC A c) ∗ Fr)))
    (Finset.subset_univ _) ?_ ?_
  · unfold outAny
    iintro ⟨H1, H2, H3, H4, ⟨%f, Hf⟩, HF⟩
    iexists f
    isplitl [Hf]; · iexact Hf
    iintro Hf
    ihave Hf := (Entails.of_eq (outP_stored A c f)) $$ Hf
    isplitl [H1]; · iexact H1
    isplitl [H3]; · iexact H3
    isplitl [H2]; · iexact H2
    isplitl [H4]; · iexact H4
    isplitl [Hf]; · iexact Hf
    iexact HF
  refine back_step A K 0 (by decide) ?_
  refine back_step A K 1 (by decide) ?_
  exact finish h

theorem part18 {Q} {Fr : sProp 𝕄} (h : iprop(idle (c := c) ∗ waitSt A K (c := c) sendQ (blk A c) (above 7) ∗ Fr) ⊢ Q ⟨⟩) :
    iprop(idle (c := c) ∗ waitSt A K (c := c) sendQ (blk A c) (above 2) ∗ Fr) ⊢ W c (at' k0_part18 c ) Q := by
  unfold at'; rw [k0_part18_eq_skeleton]; unfold k0_part18_skel
  simp only [semSignalWord, semWaitWord, Prog.lift, Prog.bind_op, Prog.bind_ret, Prog.pure_eq_ret, wp_deviceId]
  refine back_step A K 2 (by decide) ?_
  refine back_step A K 3 (by decide) ?_
  refine back_step A K 4 (by decide) ?_
  refine back_step A K 5 (by decide) ?_
  refine back_step A K 6 (by decide) ?_
  exact finish h

theorem part19 {Q} {Fr : sProp 𝕄} (h : iprop(idle (c := c) ∗ waitSt A K (c := c) sendQ (blk A c) (above 11) ∗ Fr) ⊢ Q ⟨⟩) :
    iprop(idle (c := c) ∗ waitSt A K (c := c) sendQ (blk A c) (above 7) ∗ Fr) ⊢ W c (at' k0_part19 c ) Q := by
  unfold at'; rw [k0_part19_eq_skeleton]; unfold k0_part19_skel
  simp only [semSignalWord, semWaitWord, Prog.lift, Prog.bind_op, Prog.bind_ret, Prog.pure_eq_ret, wp_deviceId]
  refine back_step A K 7 (by decide) ?_
  refine back_step A K 8 (by decide) ?_
  refine back_step A K 9 (by decide) ?_
  refine back_step A K 10 (by decide) ?_
  exact finish h

end Cert.Moe

end
-- ==== Proof.Body.lean ====
/-
# The body of the kernel, whole

The parts one after another: signals, the blocks sent, the blocks received, the result stored.
-/
module

public import proofs.«01_k».proof.Proof.Waits

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Args F) (K : Dev nD × CI → ℕ) {c : Dev nD}

/-- What one program does is followed by what the next does. -/
theorem bind_step {α β : Type} {S : sProp 𝕄} {Q : β → sProp 𝕄} {p : Prog (TpuEff nD τ sig (Elt F) Λ₀ .tc) α}
    {k : α → Prog (TpuEff nD τ sig (Elt F) Λ₀ .tc) β} (h : S ⊢ W c p (fun a => W c (k a) Q)) : S ⊢ W c (p >>= k) Q := by
  unfold W at *; rw [Sem.wp_bind]; exact h

/-- The device's arguments, as staged. -/
def inS (c : Dev nD) (a : Args F) : sProp 𝕄 := iprop(xP c a ∗ rwP c a ∗ ixP c a ∗ ewP c a ∗ swP c a)

/-- What the device keeps of the pair of cells and the slot for the offset zero, which are never used. -/
def zeroth (c : Dev nD) : sProp 𝕄 :=
  iprop(atPos ER (sendCell c 0) 0 ∅ 0 ∗ atPos ER (recvCell c 0) 0 ∅ 0 ∗ slotAny c 0)

/-- What the waits need. -/
def later (c : Dev nD) : sProp 𝕄 :=
  iprop((bigSep offs fun o => iprop(cred (tallyAt (recvCell c o) () N) ∗ atPos ER (recvCell c o) 0 ∅ 0))
    ∗ (bigSep offs fun o => atPos ER (sendCell c o) 0 ∅ 0) ∗ zeroth c)

/-- What the sends start from, with everything kept for later. -/
def start (c : Dev nD) (a : Args F) : sProp 𝕄 := iprop(later c ∗ inS c a ∗ outAny c)

theorem holds_inS {S : sProp 𝕄} {a : Args F} (h : Holds S (inS c a)) {X : sProp 𝕄} (h' : Holds (inS c a) X) : Holds S X := by
  unfold Holds at *
  iintro H
  ihave H := h $$ H
  icases H with ⟨H, Hk⟩
  ihave H := h' $$ H
  icases H with ⟨HX, Hk'⟩
  isplitl [HX]; · iexact HX
  iintro HX
  iapply Hk
  iapply Hk'
  iexact HX

theorem inS_x (a : Args F) : Holds (inS c a) (xP c a) := holds_left (holds_self _)
theorem inS_rw (a : Args F) : Holds (inS c a) (rwP c a) := holds_right (holds_left (holds_self _))
theorem inS_ix (a : Args F) : Holds (inS c a) (ixP c a) := holds_right (holds_right (holds_left (holds_self _)))
theorem inS_ew (a : Args F) : Holds (inS c a) (ewP c a) := holds_right (holds_right (holds_right (holds_left (holds_self _))))
theorem inS_sw (a : Args F) : Holds (inS c a) (swP c a) := holds_right (holds_right (holds_right (holds_right (holds_self _))))

/-- Between the last send and the first wait. -/
theorem to_waits :
    iprop(sendSt A K (c := c) (R1 c 15) ∗ blks A (c := c) (B1 c 15) ∗ (semVal (barCell c) 0 ∗ start c (A c)))
      ⊢ iprop(idle (c := c) ∗ waitSt A K (c := c) recvQ (slotIn A c) (above 0) ∗ (waitSt A K (c := c) sendQ (blk A c) (above 0) ∗ blk A c 0
          ∗ outAny c ∗ (semVal (barCell c) 0 ∗ zeroth c ∗ inS c (A c)))) := by
  rw [R1_end, B1_end, above_zero]
  unfold sendSt start later waitSt idle blks
  rw [owed_none, bigSep_singleton, Finset.sdiff_empty, Finset.sdiff_self, bigSep_empty, bigSep_empty,
    bigSep_sep' offs (fun o => cred (tallyAt ((c : Thread nD τ), .dma (sendQ o)) () N))]
  iintro ⟨⟨#HR, -, Hc, HO⟩, Hb, Hv, ⟨Hr, Hs, Hz⟩, HI, HU⟩
  isplitl [HO]; · iexact HO
  isplitl [Hr]
  · isplitr; · iexact HR
    isplitl [Hr]; · iexact Hr
    iempintro
  isplitl [Hc Hs]
  · isplitr; · iexact HR
    isplitl [Hc Hs]
    · isplitl [Hc]; · iexact Hc
      iexact Hs
    iempintro
  isplitl [Hb]; · iexact Hb
  isplitl [HU]; · iexact HU
  isplitl [Hv]; · iexact Hv
  isplitl [Hz]; · iexact Hz
  iexact HI

/-- What the device ends with. -/
def ended (c : Dev nD) : sProp 𝕄 :=
  iprop(idle (c := c) ∗ waitSt A K (c := c) sendQ (blk A c) (above 15) ∗ (waitSt A K (c := c) recvQ (slotIn A c) (above 15) ∗ blk A c 0
    ∗ outP c (outC A c) ∗ (semVal (barCell c) 0 ∗ zeroth c ∗ inS c (A c))))

-- each part is used only through what is proved of it
attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20

theorem part20 {Q : Dev nD → sProp 𝕄}
    (h : iprop(idle (c := c) ∗ waitSt A K (c := c) sendQ (blk A c) (above 14) ∗ (waitSt A K (c := c) recvQ (slotIn A c) (above 15) ∗ blk A c 0
      ∗ outP c (outC A c) ∗ (semVal (barCell c) 0 ∗ zeroth c ∗ inS c (A c)))) ⊢ Q c) :
    iprop(sigS A K c (above 0) ∗ barS₀ (c := c) ∗ sAny c ∗ start c (A c)) ⊢ W c (at' k0_part20) Q := by
  unfold at'; rw [k0_part20_eq_skeleton]; unfold k0_part20_skel
  have hin : Holds (iprop(barS₀ (c := c) ∗ sAny c ∗ start c (A c))) (inS c (A c)) :=
    holds_right (holds_right (holds_right (holds_left (holds_self _))))
  refine bind_step (part1 A K fun _ _ => ?_)
  refine bind_step (part2 A K fun _ _ => ?_)
  refine bind_step (part3 A K (holds_inS hin (inS_x _)) (holds_inS hin (inS_rw _)) ?_)
  refine bind_step (part4 A (holds_right (holds_inS hin (inS_ix _))) (holds_right (holds_inS hin (inS_x _))) (holds_right (holds_inS hin (inS_ew _)))
    (holds_right (holds_right (holds_left (holds_self _)))) ?_)
  refine bind_step (part5 A K fun _ _ _ _ _ => ?_)
  refine bind_step (part6 A K fun _ _ _ _ _ => ?_)
  refine bind_step (part7 A K fun _ _ _ _ _ => ?_)
  refine bind_step (part8 A K fun _ _ _ => ?_)
  refine bind_step (part9 A K fun _ => ?_)
  refine bind_step (part10 A K fun _ => ?_)
  refine bind_step (part11 A K fun _ => ?_)
  refine bind_step (part12 A K ((to_waits A K).trans ?_))
  have hin' : Holds (iprop(waitSt A K (c := c) sendQ (blk A c) (above 0) ∗ blk A c 0
      ∗ outAny c ∗ (semVal (barCell c) 0 ∗ zeroth c ∗ inS c (A c)))) (inS c (A c)) :=
    holds_right (holds_right (holds_right (holds_right (holds_right (holds_self _)))))
  refine bind_step (part13 A K (holds_inS hin' (inS_x _)) (holds_inS hin' (inS_sw _)) ?_)
  refine bind_step (part14 A K ?_)
  refine bind_step (part15 A K ?_)
  refine bind_step (part16 A K fun _ _ => ?_)
  refine bind_step (part17 A K ?_)
  refine bind_step (part18 A K ?_)
  refine bind_step (part19 A K ?_)
  simp only [Prog.lift, Prog.bind_op, Prog.bind_ret, Prog.pure_eq_ret]
  refine back_step A K 11 (by decide) ?_
  refine back_step A K 12 (by decide) ?_
  refine back_step A K 13 (by decide) ?_
  exact finish h

theorem body_run {Q : PUnit → sProp 𝕄} (h : ended A K c ⊢ |={Set.univ}=> Q ⟨⟩) :
    iprop(sigS A K c (above 0) ∗ barS₀ (c := c) ∗ sAny c ∗ start c (A c)) ⊢ W c (at' cc0_body) Q := by
  unfold at'; rw [cc0_body_eq_skeleton]; unfold cc0_body_skel
  refine bind_step (part20 A K ?_)
  simp only [Prog.lift, Prog.bind_op, Prog.bind_ret, Prog.pure_eq_ret]
  refine back_step A K 14 (by decide) ?_
  unfold W; rw [wp_ret]; exact h

end Cert.Moe

end
-- ==== Proof.Ledger.lean ====
/-
# What the launch deals to the devices

The semaphores' cells, the tokens of their duties passed to the devices that pay them, the credit each device may wait on.
-/
module

public import proofs.«01_k».proof.Proof.Body
public import Idealize.ShloMosaic.Lib.Pipeline.Launch
public import Idealize.ShloMosaic.Lib.Pipeline.Kit

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

def aheadE (o : Fin 16) : Dev nD ≃ Dev nD := ⟨fun c => ahead c o, fun c => ahead c (opp o), fun c => ahead_opp c o, fun c => opp_ahead c o⟩
def oppE : Fin 16 ≃ Fin 16 := ⟨opp, opp, opp_opp, opp_opp⟩

theorem sendQ_inj {o o' : Fin 16} (h : (SemLoc.dma (sendQ o) : SemLoc sig) = .dma (sendQ o')) : o = o' := by
  have h' : 6 + o.val = 6 + o'.val := congrArg Fin.val (SemLoc.dma.inj h)
  exact Fin.ext (by omega)
theorem recvQ_inj {o o' : Fin 16} (h : (SemLoc.dma (recvQ o) : SemLoc sig) = .dma (recvQ o')) : o = o' := by
  have h' : 22 + o.val = 22 + o'.val := congrArg Fin.val (SemLoc.dma.inj h)
  exact Fin.ext (by omega)
theorem sendQ_ne_recvQ {o o' : Fin 16} (h : (SemLoc.dma (sendQ o) : SemLoc sig) = .dma (recvQ o')) : False := by
  have h' : 6 + o.val = 22 + o'.val := congrArg Fin.val (SemLoc.dma.inj h)
  omega

theorem csem_inj : ∀ a b : CI, csem a = csem b → a = b
  | .inl _, .inl _, _ => rfl
  | .inl _, .inr (.inl _), h => nomatch h
  | .inl _, .inr (.inr _), h => nomatch h
  | .inr (.inl _), .inl _, h => nomatch h
  | .inr (.inr _), .inl _, h => nomatch h
  | .inr (.inl _), .inr (.inl _), h => by rw [sendQ_inj h]
  | .inr (.inl _), .inr (.inr _), h => (sendQ_ne_recvQ h).elim
  | .inr (.inr _), .inr (.inl _), h => (sendQ_ne_recvQ h.symm).elim
  | .inr (.inr _), .inr (.inr _), h => by rw [recvQ_inj h]

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj k k' (congrArg Prod.snd h)
  rw [h1, h2]

def cells : Finset (GSem nD τ sig) := Finset.univ.map ⟨kcell, kcell_injective⟩

/-- The duties of a device's own cells: sixteen at its barrier, one at each send and receive cell. -/
abbrev TI : Type := Fin 16 ⊕ (Fin 16 ⊕ Fin 16)
abbrev tokOf (ci : Dev nD × TI) : GSem nD τ sig × ℕ × Fin 16 := match ci.2 with
  | .inl o => (barCell ci.1, 0, o)
  | .inr (.inl o) => (sendCell ci.1 o, 0, 0)
  | .inr (.inr o) => (recvCell ci.1 o, 0, 0)

theorem tokOf_injective : Function.Injective (tokOf : Dev nD × TI → GSem nD τ sig × ℕ × Fin 16) := by
  rintro ⟨c, k⟩ ⟨c', k'⟩ h
  have h1 : c = c' := by
    have := congrArg (fun x : GSem nD τ sig × ℕ × Fin 16 => x.1.1.1) h
    rcases k with o | o | o <;> rcases k' with o' | o' | o' <;> exact this
  subst h1
  have h2 := congrArg (fun x : GSem nD τ sig × ℕ × Fin 16 => x.1.2) h
  have h3 := congrArg (fun x : GSem nD τ sig × ℕ × Fin 16 => x.2.2) h
  rcases k with o | o | o <;> rcases k' with o' | o' | o'
  · rw [show o = o' from h3]
  · exact nomatch h2
  · exact nomatch h2
  · exact nomatch h2
  · rw [sendQ_inj h2]
  · exact (sendQ_ne_recvQ h2).elim
  · exact nomatch h2
  · exact (sendQ_ne_recvQ h2.symm).elim
  · rw [recvQ_inj h2]

def tokens : Finset (GSem nD τ sig × ℕ × Fin 16) := Finset.univ.map ⟨tokOf, tokOf_injective⟩

def u₀ : UU := (initOf (Pipeline.cells cfgs cellOf_inj) (Pipeline.launchToks cfgs cellOf_inj), initOf cells tokens)

/-- The tokens of a device's own cells; the tokens of the duties it pays. -/
def ownToks (c : Dev nD) : sProp 𝕄 :=
  iprop((bigSep Finset.univ fun o : Fin 16 => dutyTok ER (barCell c) 0 o) ∗ (bigSep Finset.univ fun o : Fin 16 => dutyTok ER (sendCell c o) 0 0)
    ∗ bigSep Finset.univ fun o : Fin 16 => dutyTok ER (recvCell c o) 0 0)
def payToks (c : Dev nD) : sProp 𝕄 :=
  iprop((bigSep Finset.univ fun o : Fin 16 => dutyTok ER (barCell (ahead c o)) 0 (opp o)) ∗ (bigSep Finset.univ fun o : Fin 16 => dutyTok ER (sendCell c o) 0 0)
    ∗ bigSep Finset.univ fun o : Fin 16 => dutyTok ER (recvCell (ahead c o) o) 0 0)

theorem passed (Φ : Dev nD → Fin 16 → sProp 𝕄) :
    (bigSep Finset.univ fun c : Dev nD => bigSep Finset.univ fun o : Fin 16 => Φ c o)
      = bigSep Finset.univ fun c : Dev nD => bigSep Finset.univ fun o : Fin 16 => Φ (ahead c o) o := by
  rw [bigSep_univ_comm, bigSep_univ_comm (fun (c : Dev nD) (o : Fin 16) => Φ (ahead c o) o)]
  exact bigSep_congr fun o _ => bigSep_univ_equiv (aheadE o) (fun c => Φ c o)

theorem bars_passed : (bigSep Finset.univ fun c : Dev nD => bigSep Finset.univ fun o : Fin 16 => (dutyTok ER (barCell c) 0 o : sProp 𝕄))
    = bigSep Finset.univ fun c : Dev nD => bigSep Finset.univ fun o : Fin 16 => dutyTok ER (barCell (ahead c o)) 0 (opp o) := by
  rw [← passed (fun c o => (dutyTok ER (barCell c) 0 (opp o) : sProp 𝕄))]
  exact bigSep_congr fun c _ => bigSep_univ_equiv oppE (fun o => (dutyTok ER (barCell c) 0 o : sProp 𝕄))

theorem toks_passed : (bigSep Finset.univ fun c : Dev nD => (ownToks c : sProp 𝕄)) ⊢ bigSep Finset.univ fun c : Dev nD => payToks c := by
  unfold ownToks payToks
  rw [bigSep_sep', bigSep_sep', bigSep_sep', bigSep_sep', bars_passed, passed (fun c o => (dutyTok ER (recvCell c o) 0 0 : sProp 𝕄))]

/-! ## Allocation -/

variable (A : Dev nD → Args F)

def G (c : Dev nD) : sProp 𝕄 :=
  iprop((bigSep Finset.univ fun k : CI => roundState ER (exch A) (kcell (c, k)) 0)
    ∗ ((bigSep Finset.univ fun k : CI => atPos ER (kcell (c, k)) 0 ∅ 0) ∗ bigSep Finset.univ fun k : CI => reached ER (kcell (c, k)) 0) ∗ ownToks c)

def G' (c : Dev nD) : sProp 𝕄 :=
  iprop(∃ K, records A K ∗ (bigSep Finset.univ fun k : CI => atPos ER (kcell (c, k)) 0 ∅ 0) ∗ payToks c)

theorem fund_cells : BI.own (ER (initOf cells tokens)) ⊢ (|==> bigSep Finset.univ (G A) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep tokens (fun x => (dutyTok ER x.1 x.2.1 x.2.2 : sProp 𝕄)) = bigSep Finset.univ fun c : Dev nD => ownToks c := by
    unfold tokens; rw [bigSep_map, bigSep_univ_prod]
    exact bigSep_congr fun c _ => by unfold ownToks; rw [bigSep_univ_sum, bigSep_univ_sum]; rfl
  iintro HX
  imod (Rounds.fund ER (exch A) cells tokens) $$ HX with ⟨Hst, Hr, Hat, Htok⟩
  imodintro
  ihave Hst := (Entails.of_eq (hX fun g => roundState ER (exch A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores: the send and the receive semaphores. -/
abbrev osem (k : Fin 16 ⊕ Fin 16) : SemLoc sig := csem (.inr k)

theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownSems (c : Dev nD) : sProp 𝕄 := Pipeline.ownSems0 (Ix := Unit) (Name := ℕ) (U := UU) (Lvl := ℕ) (Val := Elt F) (τ := τ) osem c

/-- All of a device's cells' counters at zero. -/
theorem sems_eq (c : Dev nD) : (bigSep Finset.univ fun k : CI => semVal (kcell (c, k)) 0 : sProp 𝕄) = iprop(unscopedSems0 c ∗ ownSems c) := by
  rw [unscopedSems0_eq, bigSep_univ_sum, show (Finset.univ : Finset Unit) = {()} from rfl, bigSep_singleton]; rfl

theorem core_alloc (c : Dev nD) :
    iprop(ownSems c ∗ unscopedSems0 c ∗ G A c)
      ⊢ |={Set.univ}=> iprop((bigSep Finset.univ fun k => iprop(∃ κ : ℕ, cellInv ER (exch A) κ (kcell (c, k))))
          ∗ ((bigSep Finset.univ fun k : CI => atPos ER (kcell (c, k)) 0 ∅ 0) ∗ bigSep Finset.univ fun k : CI => reached ER (kcell (c, k)) 0) ∗ ownToks c) := by
  have hcells : iprop((bigSep Finset.univ fun k : CI => semVal (kcell (c, k)) 0) ∗ bigSep Finset.univ fun k : CI => roundState ER (exch A) (kcell (c, k)) 0)
      ⊢ (|={Set.univ}=> bigSep Finset.univ fun k => iprop(∃ κ : ℕ, cellInv ER (exch A) κ (kcell (c, k))) : sProp 𝕄) := by
    rw [← bigSep_sep']
    exact (bigSep_mono fun k _ => (Rounds.body_intro ER (exch A) (kcell (c, k))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod hcells $$ [Hv Hst] with Hinv
  · isplitl [Hv] <;> iassumption
  imodintro
  isplitl [Hinv]; · iexact Hinv
  isplitl [Hat]; · iexact Hat
  iexact Htok

/-- What persists goes to every device. -/
theorem bigSep_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exch A) κ (kcell (c, k))))
          ∗ ((bigSep Finset.univ fun k : CI => atPos ER (kcell (c, k)) 0 ∅ 0) ∗ bigSep Finset.univ fun k : CI => reached ER (kcell (c, k)) 0) ∗ ownToks c) : sProp 𝕄)
      ⊢ bigSep Finset.univ (G' A) := by
  rw [bigSep_sep', bigSep_sep', bigSep_sep', ← bigSep_univ_prod (fun ck : Dev nD × CI => iprop(∃ κ : ℕ, cellInv ER (exch A) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (exch A) κ (kcell ck) : sProp 𝕄))) $$ HI
  icases HK with ⟨%K, #HI⟩
  ihave Htk := (toks_passed (F := F)) $$ Htok
  iapply (bigSep_shared (R := records A K)
    (Φ := fun c : Dev nD => iprop((bigSep Finset.univ fun k : CI => atPos ER (kcell (c, k)) 0 ∅ 0) ∗ payToks c)) fun c _ => show _ ⊢ G' A c by
      unfold G'; iintro H; iexists K; iexact H)
  isplitr
  · unfold records; isplitl; · iexact HI
    iexact HR
  · rw [bigSep_sep']
    isplitl [Hat]; · iexact Hat
    iexact Htk

theorem glob : (bigSep Finset.univ fun c => iprop(ownSems c ∗ unscopedSems0 c ∗ G A c) : sProp 𝕄) ⊢ |={Set.univ}=> bigSep Finset.univ (G' A) :=
  ((bigSep_mono fun c _ => core_alloc A c).trans (bigSep_fupd _ _)).trans (BI.fupd_mono (regroup A))

/-! ## The launch's credit -/

abbrev O₀ (c : Dev nD) : CellTallies nD τ sig Unit := owed c offs offs

theorem bar_iff {a b : Dev nD} : Iff (barCell a = barCell b) (a = b) := ⟨fun h => congrArg (fun g : GSem nD τ sig => g.1.1) h, fun h => h ▸ rfl⟩
theorem recv_iff {a b : Dev nD} {o o' : Fin 16} : Iff (recvCell a o = recvCell b o') (a = b ∧ o = o') :=
  ⟨fun h => ⟨congrArg (fun g : GSem nD τ sig => g.1.1) h, recvQ_inj (congrArg Prod.snd h)⟩, fun ⟨h, h'⟩ => h ▸ h' ▸ rfl⟩

theorem bar_ne_recv {a b : Dev nD} {o : Fin 16} (h : barCell a = recvCell b o) : False :=
  nomatch (congrArg Prod.snd h : (SemLoc.reg barS : SemLoc sig) = .dma (recvQ o))

theorem owed_at (d : Dev nD) (g : GSem nD τ sig) : O₀ d g () = (∑ o ∈ offs, barT d o g ()) + ∑ o ∈ offs, recvT d o g () := by
  show owed d offs offs g () = _
  unfold owed
  rw [Pi.add_apply, Finsupp.add_apply, Finset.sum_apply, Finsupp.finset_sum_apply, Finset.sum_apply, Finsupp.finset_sum_apply]

theorem sum_reached (c : Dev nD) (o : Fin 16) (n : ℕ) : (∑ d : Dev nD, if c = ahead d o then n else 0) = n := by
  rw [Finset.sum_eq_single (ahead c (opp o)) (fun d _ hd => if_neg fun h => hd (by rw [h, ahead_opp])) (fun h => absurd (Finset.mem_univ _) h),
    if_pos (opp_ahead c o).symm]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  have h : ∀ d, O₀ d (barCell c) () = ∑ o ∈ offs, if c = ahead d o then 1 else 0 := fun d => by
    rw [owed_at, Finset.sum_eq_zero (s := offs) (f := fun o => recvT d o (barCell c) ()) (fun o _ => by
      unfold recvT; rw [tallyAt_apply]; exact if_neg fun h => bar_ne_recv h.1), Nat.add_zero]
    refine Finset.sum_congr rfl fun o _ => ?_
    unfold barT; rw [tallyAt_apply]
    exact if_congr ⟨fun h => bar_iff.mp h.1, fun h => ⟨bar_iff.mpr h, rfl⟩⟩ rfl rfl
  rw [Finset.sum_congr rfl fun d _ => h d, Finset.sum_comm, Finset.sum_congr rfl fun o _ => sum_reached c o 1]
  decide

theorem launch_recv (c : Dev nD) {o : Fin 16} (ho : o ∈ offs) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same]
  have h : ∀ d, O₀ d (recvCell c o) () = if c = ahead d o then N else 0 := fun d => by
    rw [owed_at, Finset.sum_eq_zero (s := offs) (f := fun o' => barT d o' (recvCell c o) ()) (fun o' _ => by
      unfold barT; rw [tallyAt_apply]; exact if_neg fun h => bar_ne_recv h.1.symm), Nat.zero_add,
      Finset.sum_eq_single o (fun o' _ hn => by
        unfold recvT; rw [tallyAt_apply]; exact if_neg fun h => hn (recv_iff.mp h.1).2.symm) (fun h => absurd ho h)]
    unfold recvT; rw [tallyAt_apply]
    exact if_congr ⟨fun h => (recv_iff.mp h.1).1, fun h => ⟨recv_iff.mpr ⟨h, rfl⟩, rfl⟩⟩ rfl rfl
  rw [Finset.sum_congr rfl fun d _ => h d]
  exact sum_reached c o N

def recvSem : Fin 16 ↪ SemLoc sig := ⟨fun o => .dma (recvQ o), fun _ _ h => recvQ_inj h⟩

theorem creds (c : Dev nD) :
    (Pipeline.launchCred O₀ c : sProp 𝕄) ⊢ iprop(cred (tallyAt (barCell c) () 15) ∗ bigSep offs fun o => cred (tallyAt (recvCell c o) () N)) := by
  unfold Pipeline.launchCred
  rw [bigSep_univ_at _ (SemLoc.reg barS), launch_bar]
  refine sep_mono_right ((bigSep_subset (t := offs.map recvSem) fun sm h => ?_).trans ?_)
  · obtain ⟨o, ho, rfl⟩ := Finset.mem_map.mp h
    exact Finset.mem_erase.mpr ⟨(fun h => nomatch h), Finset.mem_univ _⟩
  · rw [bigSep_map]
    exact Entails.of_eq (bigSep_congr fun o ho => congrArg cred (launch_recv c ho))

end Cert.Moe

end
-- ==== Proof.Ends.lean ====
/-
# From the launch to the body, and from the body to the end

The buffers cut into the pieces the exchange moves, and joined again; the cells closed.
-/
module

public import proofs.«01_k».proof.Proof.Ledger
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Args F) (K : Dev nD × CI → ℕ) {c : Dev nD}

theorem drop0 (Φ : Fin 16 → sProp 𝕄) : bigSep Finset.univ Φ ⊢ bigSep offs Φ := bigSep_subset (Finset.subset_univ offs)

theorem opp_zero : opp 0 = 0 := by decide
theorem ahead_zero (c : Dev nD) : ahead c 0 = c := by revert c; decide

theorem slots_cover : (Finset.univ : Finset (Fin 16)).biUnion slotE = Finset.univ :=
  Finset.eq_univ_iff_forall.mpr fun i => Finset.mem_biUnion.mpr ⟨⟨(i 0).val, (i 0).isLt⟩, Finset.mem_univ _, mem_slotE.mpr rfl⟩
theorem slots_disjoint : ∀ o ∈ (Finset.univ : Finset (Fin 16)), ∀ o' ∈ (Finset.univ : Finset (Fin 16)), o ≠ o' → Disjoint (slotE o) (slotE o') :=
  fun o _ o' _ h => slotE_disjoint o o' h

theorem blocks_cover (c : Dev nD) : (Finset.univ : Finset (Fin 16)).biUnion (fun o => rowsE (ahead c o)) = Finset.univ := by
  refine Finset.eq_univ_iff_forall.mpr fun i => Finset.mem_biUnion.mpr ?_
  have h : (i 0).val < 256 := (i 0).isLt
  refine ⟨(⟨(i 0).val / 16, by omega⟩ : Fin 16) - c, Finset.mem_univ _, mem_rowsE.mpr ?_⟩
  rw [ahead_sub]

/-- The receive buffer as its sixteen slots, the slot for each device with the duty paid to it. -/
theorem slots_split (f : (cc0_scratch1 : Ref sig .tc).ty.Contents (Elt F)) :
    (rLoc c ↦{fullShare} f : sProp 𝕄) ⊢ iprop(slotAny c 0 ∗ bigSep offs fun o => slotAny c (opp o)) := by
  have h1 : (rLoc c ↦{fullShare} f : sProp 𝕄) = bigSep Finset.univ fun o => slotAt c o f := by
    unfold slotAt
    rw [← pointsTo_biUnion _ _ slots_disjoint, slots_cover]
  have h2 : (bigSep Finset.univ fun o => slotAt c o f : sProp 𝕄) ⊢ bigSep Finset.univ fun o => slotAny c o :=
    bigSep_mono fun o _ => by
      show (slotAt c o f : sProp 𝕄) ⊢ iprop(∃ f, slotAt c o f)
      iintro H; iexists f; iexact H
  have h3 : (bigSep Finset.univ fun o => slotAny c o : sProp 𝕄) = iprop(slotAny c 0 ∗ bigSep offs fun o => slotAny c (opp o)) := by
    rw [bigSep_univ_equiv oppE, take (Finset.mem_univ (0 : Fin 16))]
    show iprop(slotAny c (opp 0) ∗ bigSep offs fun o => slotAny c (opp o)) = _
    rw [opp_zero]
  rw [h1]
  exact h2.trans (Entails.of_eq h3)

theorem tail_disjoint : Disjoint (slotE 0) tailR.set :=
  Finset.disjoint_left.mpr fun i hi hi' => mem_tailR.mp hi' (mem_slotE.mp hi)
theorem tail_union : slotE 0 ∪ tailR.set = Finset.univ := by
  refine Finset.eq_univ_iff_forall.mpr fun i => Finset.mem_union.mpr ?_
  by_cases h : (i 0).val = 0
  · exact Or.inl (mem_slotE.mpr h)
  · exact Or.inr (mem_tailR.mpr h)

theorem slots_join : iprop(slotAny c 0 ∗ tailP A c) ⊢ (∃ f, rLoc c ↦{fullShare} f : sProp 𝕄) := by
  unfold slotAny slotAt tailP
  iintro ⟨⟨%f, H⟩, H'⟩
  have h : iprop((rLoc c ↦[slotE 0]{fullShare} f) ∗ rLoc c ↦[tailR.set]{fullShare} (recvC A c)) ⊢ (rLoc c ↦{fullShare} (tailR.set.piecewise (recvC A c) f) : sProp 𝕄) :=
    (pointsTo_join tail_disjoint).trans (by rw [tail_union])
  iexists (tailR.set.piecewise (recvC A c) f)
  iapply h
  isplitl [H]; · iexact H
  iexact H'

theorem blks_all : iprop(blk A c 0 ∗ bigSep offs fun o => blk A c o) ⊢ (∃ f, sLoc c ↦{fullShare} f : sProp 𝕄) := by
  have h : (iprop(blk A c 0 ∗ bigSep offs fun o => blk A c o) : sProp 𝕄) = (sLoc c ↦{fullShare} (sendC c (A c))) := by
    rw [show (iprop(blk A c 0 ∗ bigSep offs fun o => blk A c o) : sProp 𝕄) = bigSep Finset.univ fun o => blk A c o from (take (Finset.mem_univ (0 : Fin 16)) _).symm]
    unfold blk
    rw [← pointsTo_biUnion _ _ (blocks_apart c _), blocks_cover]
  rw [h]
  iintro H
  iexists (sendC c (A c)); iexact H

/-- Every cell of the device closed: its counter is zero and the device's own again. -/
def closed (c : Dev nD) : sProp 𝕄 := bigSep Finset.univ fun k : CI => semVal (kcell (c, k)) 0

theorem closed_eq (c : Dev nD) : (closed c : sProp 𝕄) = iprop(semVal (barCell c) 0 ∗ (semVal (sendCell c 0) 0 ∗ bigSep offs fun o => semVal (sendCell c o) 0)
    ∗ (semVal (recvCell c 0) 0 ∗ bigSep offs fun o => semVal (recvCell c o) 0)) := by
  unfold closed
  rw [bigSep_univ_sum, bigSep_univ_sum, show (Finset.univ : Finset Unit) = {()} from rfl, bigSep_singleton,
    take (Finset.mem_univ (0 : Fin 16)) (fun o => (semVal (kcell (c, Sum.inr (Sum.inl o))) 0 : sProp 𝕄)),
    take (Finset.mem_univ (0 : Fin 16)) (fun o => (semVal (kcell (c, Sum.inr (Sum.inr o))) 0 : sProp 𝕄))]
  rfl

theorem send0_done : ∀ r, 0 ≤ r → (exch A).duties (sendCell c 0) r = ∅
  | 0, _ => duties_send0 A c
  | r + 1, _ => duties_later A _ _ (Nat.succ_pos r)
theorem recv0_done : ∀ r, 0 ≤ r → (exch A).duties (recvCell c 0) r = ∅
  | 0, _ => duties_recv0 A c
  | r + 1, _ => duties_later A _ _ (Nat.succ_pos r)

/-- The device at its end: nothing owed, its buffers whole, its cells closed, its arguments as they were, its block of
    the result stored. -/
def over (c : Dev nD) : sProp 𝕄 :=
  iprop(idle (c := c) ∗ (∃ f, sLoc c ↦{fullShare} f) ∗ (∃ f, rLoc c ↦{fullShare} f) ∗ closed c ∗ inS c (A c) ∗ outP c (outC A c))

theorem ended_over : ended A K c ⊢ |={Set.univ}=> over A c := by
  unfold ended zeroth
  rw [waited, waited, tail_eq]
  iintro ⟨HO, ⟨#HR, -, HB, HS⟩, ⟨-, -, HT, HV⟩, H0, HU, Hbar, ⟨Ha, Hb, Hsl⟩, HI⟩
  imod (Rounds.cell_close ER (exch A) (Set.mem_univ (K (snd c 0))) (fun h => h) (R := 0) (send0_done A)) $$ [Ha] with HzS
  · isplitr; · iapply (inv_of A K (snd c 0)); iexact HR
    iexact Ha
  imod (Rounds.cell_close ER (exch A) (Set.mem_univ (K (rcv c 0))) (fun h => h) (R := 0) (recv0_done A)) $$ [Hb] with HzV
  · isplitr; · iapply (inv_of A K (rcv c 0)); iexact HR
    iexact Hb
  imodintro
  unfold over
  rw [closed_eq]
  isplitl [HO]; · iexact HO
  isplitl [HB H0]
  · iapply (blks_all A)
    isplitl [H0]; · iexact H0
    iexact HB
  isplitl [HT Hsl]
  · iapply (slots_join A)
    isplitl [Hsl]; · iexact Hsl
    iexact HT
  isplitl [Hbar HzS HS HzV HV]
  · isplitl [Hbar]; · iexact Hbar
    isplitl [HzS HS]
    · isplitl [HzS]; · iexact HzS
      iexact HS
    isplitl [HzV]; · iexact HzV
    iexact HV
  isplitl [HI]; · iexact HI
  iexact HU

theorem pos_eq (c : Dev nD) : (bigSep Finset.univ fun k : CI => atPos ER (kcell (c, k)) 0 ∅ 0 : sProp 𝕄)
    = iprop(atPos ER (barCell c) 0 ∅ 0 ∗ (atPos ER (sendCell c 0) 0 ∅ 0 ∗ bigSep offs fun o => atPos ER (sendCell c o) 0 ∅ 0)
      ∗ (atPos ER (recvCell c 0) 0 ∅ 0 ∗ bigSep offs fun o => atPos ER (recvCell c o) 0 ∅ 0)) := by
  rw [bigSep_univ_sum, bigSep_univ_sum, show (Finset.univ : Finset Unit) = {()} from rfl, bigSep_singleton,
    take (Finset.mem_univ (0 : Fin 16)) (fun o => (atPos ER (kcell (c, Sum.inr (Sum.inl o))) 0 ∅ 0 : sProp 𝕄)),
    take (Finset.mem_univ (0 : Fin 16)) (fun o => (atPos ER (kcell (c, Sum.inr (Sum.inr o))) 0 ∅ 0 : sProp 𝕄))]
  rfl

/-- What the launch gives the device beside its buffers. -/
def given (c : Dev nD) : sProp 𝕄 :=
  iprop(G' A c ∗ cred (tallyAt (barCell c) () 15) ∗ (bigSep offs fun o => cred (tallyAt (recvCell c o) () N)) ∗ levAts L lv)

theorem body_start : iprop(given A c ∗ (∃ f, sLoc c ↦{fullShare} f) ∗ (∃ f, rLoc c ↦{fullShare} f) ∗ (∃ W, owes (c : Thread nD τ) (O₀ c) W) ∗ inS c (A c) ∗ outAny c)
    ⊢ (∃ K, sigS A K c (above 0) ∗ barS₀ (c := c) ∗ sAny c ∗ start c (A c) : sProp 𝕄) := by
  unfold given G' payToks
  rw [pos_eq, above_zero]
  iintro ⟨⟨⟨%K, #HR, ⟨Hat, ⟨Hs0, Hsnd⟩, Hr0, Hrcv⟩, Htb, Hts, Htr⟩, Hcb, Hcr, #Hlev⟩, HS, ⟨%f, Hr⟩, HO, HI, HU⟩
  iexists K
  ihave Htb := (drop0 (fun o => (dutyTok ER (barCell (ahead c o)) 0 (opp o) : sProp 𝕄))) $$ Htb
  ihave Hts := (drop0 (fun o => (dutyTok ER (sendCell c o) 0 0 : sProp 𝕄))) $$ Hts
  ihave Htr := (drop0 (fun o => (dutyTok ER (recvCell (ahead c o) o) 0 0 : sProp 𝕄))) $$ Htr
  ihave Hr := (slots_split f) $$ Hr
  icases Hr with ⟨Hsl, Hr⟩
  unfold sigS barS₀ sAny start later zeroth toks
  simp only [bigSep_sep']
  isplitl [Htb Hr HO]
  · isplitr; · iexact HR
    isplitl [Htb Hr]
    · isplitl [Htb]; · iexact Htb
      iexact Hr
    iexact HO
  isplitl [Hcb Hat Hts Htr]
  · isplitl [Hcb]; · iexact Hcb
    isplitl [Hat]; · iexact Hat
    isplitr; · iexact Hlev
    isplitl [Hts]; · iexact Hts
    iexact Htr
  isplitl [HS]; · iexact HS
  isplitl [Hcr Hrcv Hsnd Hs0 Hr0 Hsl]
  · isplitl [Hcr Hrcv]
    · isplitl [Hcr]; · iexact Hcr
      iexact Hrcv
    isplitl [Hsnd]; · iexact Hsnd
    isplitl [Hs0]; · iexact Hs0
    isplitl [Hr0]; · iexact Hr0
    iexact Hsl
  isplitl [HI]; · iexact HI
  iexact HU

/-- The body from what the launch gives to its end. -/
theorem body_all : iprop(given A c ∗ (∃ f, sLoc c ↦{fullShare} f) ∗ (∃ f, rLoc c ↦{fullShare} f) ∗ (∃ W, owes (c : Thread nD τ) (O₀ c) W) ∗ inS c (A c) ∗ outAny c)
    ⊢ W c (at' cc0_body) (fun _ => over A c) := by
  refine body_start A |>.trans ?_
  iintro ⟨%K, H⟩
  iapply (body_run A K (ended_over A K))
  iexact H

end Cert.Moe

end
-- ==== Proof.Run.lean ====
/-
# The run of the kernel

The launch's theorem at the exchange: every weakly fair execution ends, each device's block of the result is `outC`, the
arguments are as they were, and every counter is at zero.
-/
module

public import proofs.«01_k».proof.Proof.Ends
public import Idealize.ShloMosaic.Lib.Pipeline.CollectiveSegs
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The arguments a device holds in a memory. -/
def argsOf (c : Dev nD) : Args F :=
  { x := m ((c : Thread nD τ).loc main_arg0)
    rw := m ((c : Thread nD τ).loc main_arg1)
    ix := m ((c : Thread nD τ).loc main_arg2)
    ew := m ((c : Thread nD τ).loc main_arg3)
    sw := m ((c : Thread nD τ).loc main_arg4) }

/-! ## The windows: each is its whole array -/

theorem read_0 (t : Fin cfg0.N) (f : (main_arg0 : Ref sig .tc).ty.Contents (Elt F)) : (win0_0.blk t).view.read (Elt F) f = f :=
  Memref.read_access_unit_zero (Elt F) main_arg0 (show (fun a => (win0_0.index t) a * main_arg0.ty.shape.size a) = fun _ => 0 from
    funext fun _ => Nat.zero_mul _) (fun _ => by show 0 * _ + _ ≤ _; rw [Nat.zero_mul, Nat.zero_add]) f
theorem read_1 (t : Fin cfg0.N) (f : (main_arg1 : Ref sig .tc).ty.Contents (Elt F)) : (win0_1.blk t).view.read (Elt F) f = f :=
  Memref.read_access_unit_zero (Elt F) main_arg1 (show (fun a => (win0_1.index t) a * main_arg1.ty.shape.size a) = fun _ => 0 from
    funext fun _ => Nat.zero_mul _) (fun _ => by show 0 * _ + _ ≤ _; rw [Nat.zero_mul, Nat.zero_add]) f
theorem read_2 (t : Fin cfg0.N) (f : (main_arg2 : Ref sig .tc).ty.Contents (Elt F)) : (win0_2.blk t).view.read (Elt F) f = f :=
  Memref.read_access_unit_zero (Elt F) main_arg2 (show (fun a => (win0_2.index t) a * main_arg2.ty.shape.size a) = fun _ => 0 from
    funext fun _ => Nat.zero_mul _) (fun _ => by show 0 * _ + _ ≤ _; rw [Nat.zero_mul, Nat.zero_add]) f
theorem read_3 (t : Fin cfg0.N) (f : (main_arg3 : Ref sig .tc).ty.Contents (Elt F)) : (win0_3.blk t).view.read (Elt F) f = f :=
  Memref.read_access_unit_zero (Elt F) main_arg3 (show (fun a => (win0_3.index t) a * main_arg3.ty.shape.size a) = fun _ => 0 from
    funext fun _ => Nat.zero_mul _) (fun _ => by show 0 * _ + _ ≤ _; rw [Nat.zero_mul, Nat.zero_add]) f
theorem read_4 (t : Fin cfg0.N) (f : (main_arg4 : Ref sig .tc).ty.Contents (Elt F)) : (win0_4.blk t).view.read (Elt F) f = f :=
  Memref.read_access_unit_zero (Elt F) main_arg4 (show (fun a => (win0_4.index t) a * main_arg4.ty.shape.size a) = fun _ => 0 from
    funext fun _ => Nat.zero_mul _) (fun _ => by show 0 * _ + _ ≤ _; rw [Nat.zero_mul, Nat.zero_add]) f
theorem read_5 (t : Fin cfg0.N) (f : (main_v1 : Ref sig .tc).ty.Contents (Elt F)) : (win0_5.blk t).view.read (Elt F) f = f :=
  Memref.read_access_unit_zero (Elt F) main_v1 (show (fun a => (win0_5.index t) a * main_v1.ty.shape.size a) = fun _ => 0 from
    funext fun _ => Nat.zero_mul _) (fun _ => by show 0 * _ + _ ≤ _; rw [Nat.zero_mul, Nat.zero_add]) f

open Idealize.ShloMosaic.Pipeline (Dat Cfg Window BodyObligation cellOf)

def Φ₀ (c : Dev nD) : sProp 𝕄 := iprop(given (argsOf m) c ∗ (∃ f, sLoc c ↦{fullShare} f) ∗ (∃ f, rLoc c ↦{fullShare} f))
def Φ₁ (c : Dev nD) : sProp 𝕄 := iprop((∃ f, sLoc c ↦{fullShare} f) ∗ (∃ f, rLoc c ↦{fullShare} f) ∗ closed c)

/-- The pipeline's data: the arrays as the memory has them, the arguments unchanged after the point, the result stored. -/
def dats (_ : Fin 1) (c : Dev nD) : Dat τ (Elt F) Unit ℕ UU ℕ cfg0 c where
  A w := m ((cfg0.win w).arr.view.loc (c : Thread nD τ))
  after w _ := match w with
    | ⟨0, _⟩ => (argsOf m c).x
    | ⟨1, _⟩ => (argsOf m c).rw
    | ⟨2, _⟩ => (argsOf m c).ix
    | ⟨3, _⟩ => (argsOf m c).ew
    | ⟨4, _⟩ => (argsOf m c).sw
    | ⟨5, _⟩ => outC (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A staging buffer before the body holds the argument fetched into it. -/
theorem before_0 (c : Dev nD) (d) : (dats m 0 c).before (0 : Fin 6) t0_0 d = (argsOf m c).x := by
  unfold Dat.before; rw [if_pos (fetch0_0 t0_0)]; exact read_0 (F := F) t0_0 _
theorem before_1 (c : Dev nD) (d) : (dats m 0 c).before (1 : Fin 6) t0_0 d = (argsOf m c).rw := by
  unfold Dat.before; rw [if_pos (fetch0_1 t0_0)]; exact read_1 (F := F) t0_0 _
theorem before_2 (c : Dev nD) (d) : (dats m 0 c).before (2 : Fin 6) t0_0 d = (argsOf m c).ix := by
  unfold Dat.before; rw [if_pos (fetch0_2 t0_0)]; exact read_2 (F := F) t0_0 _
theorem before_3 (c : Dev nD) (d) : (dats m 0 c).before (3 : Fin 6) t0_0 d = (argsOf m c).ew := by
  unfold Dat.before; rw [if_pos (fetch0_3 t0_0)]; exact read_3 (F := F) t0_0 _
theorem before_4 (c : Dev nD) (d) : (dats m 0 c).before (4 : Fin 6) t0_0 d = (argsOf m c).sw := by
  unfold Dat.before; rw [if_pos (fetch0_4 t0_0)]; exact read_4 (F := F) t0_0 _

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(Φ₁ c ∗ (dats m 0 c).owesAt () t0_0.succ
    ∗ stg c cc0_stg0_0 (argsOf m c).x ∗ stg c cc0_stg1_0 (argsOf m c).rw ∗ stg c cc0_stg2_0 (argsOf m c).ix
    ∗ stg c cc0_stg3_0 (argsOf m c).ew ∗ stg c cc0_stg4_0 (argsOf m c).sw ∗ stg c cc0_stg5_0 (outC (argsOf m) c))

theorem body_pre (c : Dev nD) : bodyPre m c ⊢ iprop(given (argsOf m) c ∗ (∃ f, sLoc c ↦{fullShare} f) ∗ (∃ f, rLoc c ↦{fullShare} f)
    ∗ (∃ W, owes (c : Thread nD τ) (O₀ c) W) ∗ inS c (argsOf m c) ∗ outAny c) := by
  unfold bodyPre Φ₀ Dat.owesAt Pipeline.owesWithin inS outAny xP rwP ixP ewP swP
  rw [show (dats m 0 c).owed t0_0.castSucc = O₀ c from rfl]
  simp only [before_0, before_1, before_2, before_3, before_4]
  iintro ⟨⟨HG, HS, HR⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0 h1 h2 h3 h4
  isplitl [HG]; · iexact HG
  isplitl [HS]; · iexact HS
  isplitl [HR]; · iexact HR
  isplitl [HO]; · iexists W; iexact HO
  isplitl [H0 H1 H2 H3 H4]
  · isplitl [H0]; · iexact H0
    isplitl [H1]; · iexact H1
    isplitl [H2]; · iexact H2
    isplitl [H3]; · iexact H3
    iexact H4
  iexists f5; iexact H5

theorem body_post (c : Dev nD) : over (argsOf m) c ⊢ bodyPost m c := by
  unfold bodyPost Φ₁ over idle Dat.owesAt Pipeline.owesWithin inS xP rwP ixP ewP swP outP
  rw [show (dats m 0 c).owed t0_0.succ = 0 from rfl]
  iintro ⟨⟨%W, HO⟩, HS, HR, HC, ⟨H0, H1, H2, H3, H4⟩, H5⟩
  isplitl [HS HR HC]
  · isplitl [HS]; · iexact HS
    isplitl [HR]; · iexact HR
    iexact HC
  isplitl [HO]
  · iexists W; isplitr; · ipureintro; exact fun a h => Or.inl (Set.mem_univ a)
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

attribute [local irreducible] cc0_body outC

theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (at' cc0_body) (fun _ => bodyPost m c)
  refine (body_pre m c).trans ((body_all (argsOf m)).trans ?_)
  exact (wp frame (wpE (defs₀ (F := F)) 𝒱₀ (c : Thread nD τ) none) Set.univ (at' cc0_body)).mono fun _ => body_post m c

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(given (argsOf m) c ∗ emp) := by
  iintro ⟨-, Hlev, Hcr, -, HG⟩
  ihave Hc := (creds (F := F) c) $$ Hcr
  icases Hc with ⟨H1, HN⟩
  imodintro
  unfold given
  isplitl
  · isplitl [HG]; · iexact HG
    isplitl [H1]; · iexact H1
    isplitl [HN]; · iexact HN
    iexact Hlev
  · iempintro

theorem phi0_intro (c : Dev nD) :
    iprop(given (argsOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H1, H2⟩
  isplitl [Hs]; · iexact Hs
  isplitl [H1]; · iexact H1
  iexact H2

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ closed
  rw [sems_eq]
  iintro ⟨H1, H2, HB, HO⟩
  isplitl [HB]; · iexact HB
  isplitl [HO]; · iexact HO
  isplitl [H1]; · iexact H1
  iexact H2

theorem waits (c : Dev nD) : (levAts L lv : sProp 𝕄) ⊢ Pipeline.cellsWaits cfgs (dats m) () 0 c :=
  Pipeline.cellsWaits_intro cfgs (dats m) () 0 c fun w s t => by
    have hq : ∀ (w : Fin cfg0.W) (s), ((cfg0.win w).sem s).val < 22 := by decide
    rcases t with ⟨_ | _, ht⟩
    · exact mayWait_stage c _ (hq w s) offs offs
    · have h := mayWait_stage (F := F) c _ (hq w s) ∅ ∅
      rw [owed_none] at h; exact h

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      imod (fund_cells (argsOf m)) $$ HX with HG
      imodintro
      isplitl [HP] <;> iassumption)
    (hglob := glob (argsOf m))
    (hA := fun _ _ => rfl) (hpf := fun _ k => k.elim0)
    (X := given (argsOf m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run are as they were. -/
theorem final_0 (c : Dev nD) : finalA m c (0 : Fin 6) = m ((c : Thread nD τ).loc main_arg0) := (dats (F := F) m 0 c).arrAt_in (0 : Fin 6) rfl _
theorem final_1 (c : Dev nD) : finalA m c (1 : Fin 6) = m ((c : Thread nD τ).loc main_arg1) := (dats (F := F) m 0 c).arrAt_in (1 : Fin 6) rfl _
theorem final_2 (c : Dev nD) : finalA m c (2 : Fin 6) = m ((c : Thread nD τ).loc main_arg2) := (dats (F := F) m 0 c).arrAt_in (2 : Fin 6) rfl _
theorem final_3 (c : Dev nD) : finalA m c (3 : Fin 6) = m ((c : Thread nD τ).loc main_arg3) := (dats (F := F) m 0 c).arrAt_in (3 : Fin 6) rfl _
theorem final_4 (c : Dev nD) : finalA m c (4 : Fin 6) = m ((c : Thread nD τ).loc main_arg4) := (dats (F := F) m 0 c).arrAt_in (4 : Fin 6) rfl _

/-- The result after the run is what the body stored. -/
theorem final_5 (c : Dev nD) : finalA m c (5 : Fin 6) = outC (argsOf m) c := by
  have hw : ((cfg0.win 5).blk t0_0).view.read (Elt F) ((dats m 0 c).arrAt (5 : Fin 6) cfg0.N) = (dats m 0 c).flushed (5 : Fin 6) t0_0 := by
    rw [show cfg0.N = t0_0.val + 1 from rfl, (dats m 0 c).arrAt_succ (5 : Fin 6) t0_0, flush0_5, if_pos rfl]
    exact View.read_write_univ _ _
  exact (read_5 t0_0 _).symm.trans hw

/-- The frame: the arguments unchanged and every counter at zero. -/
theorem run_frame : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs (onTc (τ := τ) (main (F := F))) (s₀ m ρ)).mono (fun _ h => ⟨fun c => ⟨(h.1 c 0).trans (final_0 m c), (h.1 c 1).trans (final_1 m c), (h.1 c 2).trans (final_2 m c),
    (h.1 c 3).trans (final_3 m c), (h.1 c 4).trans (final_4 m c)⟩, h.2⟩) (run_main m ρ)

end Cert.Moe

end
-- ==== Proof.Frames.lean ====
/-
# The frames of the kernel, as printed and idealized

The two print the same operations, so the one run, stated for any floats, is both's.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Moe

open Idealize.ShloMosaic Idealize.ShloMosaic.TcCoe Idealize.SL.Sem

variable {F : FTy → Type} [FloatOps F]

/-- The two body tables have the same rows. -/
theorem defs₀_same : Cert.Kernel.defs₀ (F := F) = Cert.KernelIdeal.defs₀ (F := F) := by
  funext p l a
  cases p
  · rcases l with ⟨_ | n, h⟩
    · rfl
    · exact absurd h (Nat.not_lt.2 (Nat.le_add_left _ _))
  · rfl
  · rfl

theorem defs_same : Cert.Kernel.defs (F := F) = Cert.KernelIdeal.defs (F := F) :=
  congrArg (Pipeline.defs (Cert.Kernel.pcfgs (F := F))) defs₀_same

theorem main_same : Cert.Kernel.main (F := F) = Cert.KernelIdeal.main (F := F) := rfl

theorem frame_kernelIdeal : Cert.quiescent_KernelIdeal := fun m g _ => run_frame (F := Ideal) m g

theorem frame_kernel : Cert.quiescent_Kernel := fun m g _ => by
  rw [defs_same]
  exact run_frame (F := Bits) m g

/-- The reference is host operations alone, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Algebraic.lean ====
/-
# The value claim

From memories that hold the reference's arrays in blocks, the kernel's result on each device is its block of the
reference's result.
-/
module

public import proofs.«01_k».proof.Proof.Equation
public import proofs.«01_k».proof.Proof.Frames

@[expose] public section

noncomputable section

namespace Cert.Moe

open Idealize.ShloMosaic Idealize.SL.Sem
open Idealize.ShloMosaic.TcCoe
open Idealize.ShloMosaic.ValueIdx

theorem facts_preKernel : Cert.Pre_finite_router_KernelIdeal.Facts where
  bcast_S_S256x128 := by decide
  bcast_S_S128x32 := by decide

theorem facts_preReference : Cert.Pre_finite_router_ReferenceIdeal.Facts where
  bcast_S_S256x128 := by decide
  bcast_S_S128x32 := by decide

theorem frame_kernelIdeal_pre :
    Cert.quiescent_KernelIdeal_pre_finite_router_KernelIdeal (hPre_finite_router_KernelIdeal := facts_preKernel) :=
  fun m g _ => frame_kernelIdeal m g trivial

theorem frame_reference_pre :
    Cert.quiescent_ReferenceIdeal_pre_finite_router_ReferenceIdeal (hPre_finite_router_ReferenceIdeal := facts_preReference) :=
  fun m g _ => frame_reference m g trivial

/-- A value whose magnitude compares below the infinity is a number. -/
theorem num_of_bit {v : EReal} (h : Ideal.cmp .olt (max v (-v)) (Ideal.ofBits .f32 0x7F800000#32) = 1#1) : IsNum v := by
  rw [plus_infinity] at h
  refine isNum_of_abs ?_
  by_contra hc
  have : Ideal.cmp .olt (max v (-v)) ⊤ = 0#1 := by
    unfold Ideal.cmp
    simp only [decide_eq_false hc]
    rfl
  rw [this] at h
  exact absurd h (by decide)

section
variable (m : (ℓ : Loc Cert.KernelIdeal.nD Cert.KernelIdeal.τ Cert.KernelIdeal.sig) → Buf (Elt Ideal) ℓ)

theorem x_num (hp : Cert.Pre_KernelIdeal_finite_router_KernelIdeal (hPre_finite_router_KernelIdeal := facts_preKernel) m)
    (c : Dev Cert.KernelIdeal.nD) (j : Cert.KernelIdeal.S256x128.Idx) : IsNum ((argsOf m c).x j) :=
  num_of_bit (congrFun (hp c).1 j)

theorem rw_num (hp : Cert.Pre_KernelIdeal_finite_router_KernelIdeal (hPre_finite_router_KernelIdeal := facts_preKernel) m)
    (c : Dev Cert.KernelIdeal.nD) (j : Cert.KernelIdeal.S128x32.Idx) : IsNum ((argsOf m c).rw j) :=
  num_of_bit (congrFun (hp c).2 j)

end

/-- A device's experts are its block of all. -/
theorem expert_block (ew : (⟨3, ![32, 128, 256]⟩ : Shape).Idx → EReal) (d : Dev Cert.KernelIdeal.nD) (b : Fin 2) :
    expertAt (Layout.block ⟨3, ![2, 128, 256]⟩ ⟨3, ![32, 128, 256]⟩ 0 16 d ew) b = expertOf ew (owned d b) := by
  funext j
  unfold expertAt expertOf
  rw [Layout.block_apply]
  refine congrArg ew (funext fun a => Fin.ext ?_)
  rw [Layout.Tiles.idx_val]
  match a with
  | ⟨0, _⟩ => show d.val * 2 + b.val = 2 * d.val + b.val; omega
  | ⟨1, _⟩ => rfl
  | ⟨2, _⟩ => rfl

/-- Row `r` of a device's block is the device's `r`th token. -/
theorem row_block (v : (⟨2, ![256, 256]⟩ : Shape).Idx → EReal) (c : Dev Cert.KernelIdeal.nD) (r : Fin 16) (o : Fin 256) :
    Layout.block ⟨2, ![16, 256]⟩ ⟨2, ![256, 256]⟩ 0 16 c v (by decide) (ix2 r o) = v (ix2 (tok c r) o) := by
  rw [Layout.block_apply]
  refine congrArg v (funext fun a => Fin.ext ?_)
  rw [Layout.Tiles.idx_val]
  match a with
  | ⟨0, _⟩ => show c.val * 16 + r.val = 16 * c.val + r.val; omega
  | ⟨1, _⟩ => rfl

theorem algebraic : Cert.algebraic_KernelIdeal_ReferenceIdeal_pre_finite_router_KernelIdeal
    (hPre_finite_router_KernelIdeal := facts_preKernel) := by
  intro m g m' g' hp hm
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  let jx := m' (((0 : Dev Cert.ReferenceIdeal.nD).tc : Thread Cert.ReferenceIdeal.nD Cert.ReferenceIdeal.τ).loc Cert.ReferenceIdeal.main_arg2)
  let ew := m' (((0 : Dev Cert.ReferenceIdeal.nD).tc : Thread Cert.ReferenceIdeal.nD Cert.ReferenceIdeal.τ).loc Cert.ReferenceIdeal.main_arg3)
  let sw := m' (((0 : Dev Cert.ReferenceIdeal.nD).tc : Thread Cert.ReferenceIdeal.nD Cert.ReferenceIdeal.τ).loc Cert.ReferenceIdeal.main_arg4)
  have hx : ∀ d, (argsOf m d).x = x := fun d => (hm d).1
  have hw : ∀ d, (argsOf m d).rw = w := fun d => (hm d).2.1
  have hi : ∀ d, (argsOf m d).ix = jx := fun d => (hm d).2.2.1
  have he : ∀ d b, expertAt (argsOf m d).ew b = expertOf ew (owned d b) := fun d b =>
    (congrArg (fun v => expertAt v b) (hm d).2.2.2.1).trans (expert_block ew d b)
  have hs : ∀ d, (argsOf m d).sw = sw := fun d => (hm d).2.2.2.2
  have fx : ∀ j : Cert.KernelIdeal.S256x128.Idx, IsNum (x j) := fun j => hx 0 ▸ x_num m hp 0 j
  have fw : ∀ j : Cert.KernelIdeal.S128x32.Idx, IsNum (w j) := fun j => hw 0 ▸ rw_num m hp 0 j
  have hv : ∀ c : Dev Cert.KernelIdeal.nD, outC (argsOf m) c
      = Layout.block ⟨2, ![16, 256]⟩ ⟨2, ![256, 256]⟩ 0 16 c (refOut x w jx ew sw) := by
    intro c
    funext j
    rw [eq_ix2 j]
    exact (outC_eq (argsOf m) x w jx ew hx hw hi he sw hs fx fw c (j 0) (j 1)).trans (row_block _ c (j 0) (j 1)).symm
  refine ⟨refOut x w jx ew sw, ?_, ?_⟩
  · refine (θ_run _ _ _).mono (fun r h c => ?_) (run_main (F := Ideal) m g)
    exact ⟨((h.1 c 5).trans (final_5 m c)).trans (hv c), (h.1 c 0).trans (final_0 m c), (h.1 c 1).trans (final_1 m c),
      (h.1 c 2).trans (final_2 m c), (h.1 c 3).trans (final_3 m c), (h.1 c 4).trans (final_4 m c)⟩
  · exact (θ_run _ _ _).mono (fun r h => h 0) (Cert.ReferenceIdeal.Value.run (F := Ideal) m' g')

end Cert.Moe

end
-- ==== Proof.lean ====
/-
# The certificate's claims, gathered

The frames of the kernel as printed, of the kernel idealized and of the reference; that the idealized kernel is the
printed one; and that its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Moe.facts_preKernel,
    Cert.Moe.facts_preReference, Cert.Moe.frame_kernel, Cert.Moe.frame_kernelIdeal, Cert.Moe.frame_kernelIdeal_pre,
    Cert.Moe.frame_reference, Cert.Moe.frame_reference_pre, trivial, Cert.Moe.algebraic⟩

end Cert.Proof

end
